-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)

variable [Facts]

def fn {F : FTy → Type} [FloatOps F] (main_arg0 : FVec F S2048x1024 .f32) (main_arg1 : FVec F S1024x1024 .f32) (main_arg2 : FVec F S2048x1024 .f32) (main_arg3 : FVec F S2048x1024 .f32) (main_arg4 : FVec F S1024x1024 .f32) : IVec S2048x1024 1 × IVec S1024x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_ReferenceIdeal.lean ====
abbrev S2048x1024 : Shape := ⟨2, ![2048, 1024]⟩
abbrev S1024x1024 : Shape := ⟨2, ![1024, 1024]⟩
abbrev S8192x1024 : Shape := ⟨2, ![8192, 1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S2048x1024 .f32) (main_arg1 : FVec F S1024x1024 .f32) (main_arg2 : FVec F S8192x1024 .f32) (main_arg3 : FVec F S8192x1024 .f32) (main_arg4 : FVec F S1024x1024 .f32) : IVec S2048x1024 1 × IVec S1024x1024 1 × IVec S8192x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S2048x1024 : Shape := ⟨2, ![2048, 1024]⟩
abbrev S1024x1024 : Shape := ⟨2, ![1024, 1024]⟩
abbrev S2x512x1024 : Shape := ⟨3, ![2, 512, 1024]⟩
abbrev S512x1024 : Shape := ⟨2, ![512, 1024]⟩
abbrev S512x512 : Shape := ⟨2, ![512, 512]⟩
abbrev S2 : Shape := ⟨1, ![2]⟩
abbrev S5 : Shape := ⟨1, ![5]⟩
abbrev S_ : Shape := ⟨0, ![]⟩
abbrev S1 : Shape := ⟨1, ![1]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .local _ .vmem, ⟨0, _⟩ => ⟨S1024x1024, .f32⟩
  | .local _ .vmem, ⟨1, _⟩ => ⟨S2048x1024, .f32⟩
  | .local _ .vmem, ⟨2, _⟩ => ⟨S2048x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .bf16⟩
  | .local _ .vmem, ⟨6, _⟩ => ⟨S2x512x1024, .f32⟩
  | .local _ .vmem, ⟨7, _⟩ => ⟨S512x1024, .f32⟩
  | .local _ .vmem, ⟨8, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v13 : BitVec 1 := Scalar.cmpi .eq v2 c0_i32_10
  let v14 : BitVec 32 := Scalar.extui v13
  let c0_i32_11 : BitVec 32 := 0#32
  let v15 : BitVec 1 := Scalar.cmpi .ne v14 c0_i32_11
  v15

def k0_dev3 : Nat :=
  let c0_i32_164 : BitVec 32 := 0#32
  let c1_i32_162 : BitVec 32 := 1#32
  let c1_i32_163 : BitVec 32 := 1#32
  let v264 : BitVec 32 := Scalar.muli c1_i32_162 c1_i32_163
  let v265 : BitVec 32 := Scalar.addi c0_i32_164 v264
  v265.toNat
def k0_dev4 : Nat :=
  let c0_i32_173 : BitVec 32 := 0#32
  let c3_i32_171 : BitVec 32 := 3#32
  let c1_i32_172 : BitVec 32 := 1#32
  let v272 : BitVec 32 := Scalar.muli c3_i32_171 c1_i32_172
  let v273 : BitVec 32 := Scalar.addi c0_i32_173 v272
  v273.toNat
def k0_dev5 : Nat :=
  let c0_i32_344 : BitVec 32 := 0#32
  let c1_i32_342 : BitVec 32 := 1#32
  let c1_i32_343 : BitVec 32 := 1#32
  let v530 : BitVec 32 := Scalar.muli c1_i32_342 c1_i32_343
  let v531 : BitVec 32 := Scalar.addi c0_i32_344 v530
  v531.toNat
def k0_dev6 : Nat :=
  let c0_i32_353 : BitVec 32 := 0#32
  let c3_i32_351 : BitVec 32 := 3#32
  let c1_i32_352 : BitVec 32 := 1#32
  let v538 : BitVec 32 := Scalar.muli c3_i32_351 c1_i32_352
  let v539 : BitVec 32 := Scalar.addi c0_i32_353 v538
  v539.toNat
def k0_dev7 : Nat :=
  let c0_i32_524 : BitVec 32 := 0#32
  let c1_i32_522 : BitVec 32 := 1#32
  let c1_i32_523 : BitVec 32 := 1#32
  let v796 : BitVec 32 := Scalar.muli c1_i32_522 c1_i32_523
  let v797 : BitVec 32 := Scalar.addi c0_i32_524 v796
  v797.toNat
def k0_dev8 : Nat :=
  let c0_i32_533 : BitVec 32 := 0#32
  let c3_i32_531 : BitVec 32 := 3#32
  let c1_i32_532 : BitVec 32 := 1#32
  let v804 : BitVec 32 := Scalar.muli c3_i32_531 c1_i32_532
  let v805 : BitVec 32 := Scalar.addi c0_i32_533 v804
  v805.toNat
def k0_dev9 : Nat :=
  let c0_i32_699 : BitVec 32 := 0#32
  let c1_i32_697 : BitVec 32 := 1#32
  let c1_i32_698 : BitVec 32 := 1#32
  let v1057 : BitVec 32 := Scalar.muli c1_i32_697 c1_i32_698
  let v1058 : BitVec 32 := Scalar.addi c0_i32_699 v1057
  v1058.toNat
def k0_dev10 : Nat :=
  let c0_i32_708 : BitVec 32 := 0#32
  let c1_i32_706 : BitVec 32 := 1#32
  let c1_i32_707 : BitVec 32 := 1#32
  let v1065 : BitVec 32 := Scalar.muli c1_i32_706 c1_i32_707
  let v1066 : BitVec 32 := Scalar.addi c0_i32_708 v1065
  v1066.toNat
def k0_dev11 : Nat :=
  let c0_i32_716 : BitVec 32 := 0#32
  let c3_i32_714 : BitVec 32 := 3#32
  let c1_i32_715 : BitVec 32 := 1#32
  let v1073 : BitVec 32 := Scalar.muli c3_i32_714 c1_i32_715
  let v1074 : BitVec 32 := Scalar.addi c0_i32_716 v1073
  v1074.toNat
def k0_dev12 : Nat :=
  let c0_i32_725 : BitVec 32 := 0#32
  let c3_i32_723 : BitVec 32 := 3#32
  let c1_i32_724 : BitVec 32 := 1#32
  let v1081 : BitVec 32 := Scalar.muli c3_i32_723 c1_i32_724
  let v1082 : BitVec 32 := Scalar.addi c0_i32_725 v1081
  v1082.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v16 : BitVec 1 := Scalar.cmpi .eq v2 c1_i32_12
  let v17 : BitVec 32 := Scalar.extui v16
  let c0_i32_13 : BitVec 32 := 0#32
  let v18 : BitVec 1 := Scalar.cmpi .ne v17 c0_i32_13
  v18

def k0_dev13 : Nat :=
  let c0_i32_30 : BitVec 32 := 0#32
  let c2_i32_28 : BitVec 32 := 2#32
  let c1_i32_29 : BitVec 32 := 1#32
  let v31 : BitVec 32 := Scalar.muli c2_i32_28 c1_i32_29
  let v32 : BitVec 32 := Scalar.addi c0_i32_30 v31
  v32.toNat
def k0_dev14 : Nat :=
  let c0_i32_52 : BitVec 32 := 0#32
  let c2_i32_50 : BitVec 32 := 2#32
  let c1_i32_51 : BitVec 32 := 1#32
  let v51 : BitVec 32 := Scalar.muli c2_i32_50 c1_i32_51
  let v52 : BitVec 32 := Scalar.addi c0_i32_52 v51
  v52.toNat
def k0_dev15 : Nat :=
  let c0_i32_75 : BitVec 32 := 0#32
  let c2_i32_73 : BitVec 32 := 2#32
  let c1_i32_74 : BitVec 32 := 1#32
  let v71 : BitVec 32 := Scalar.muli c2_i32_73 c1_i32_74
  let v72 : BitVec 32 := Scalar.addi c0_i32_75 v71
  v72.toNat
def k0_dev16 : Nat :=
  let c0_i32_98 : BitVec 32 := 0#32
  let c2_i32_96 : BitVec 32 := 2#32
  let c1_i32_97 : BitVec 32 := 1#32
  let v91 : BitVec 32 := Scalar.muli c2_i32_96 c1_i32_97
  let v92 : BitVec 32 := Scalar.addi c0_i32_98 v91
  v92.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v19 : BitVec 1 := Scalar.cmpi .eq v2 c3_i32
  let v20 : BitVec 32 := Scalar.extui v19
  let c0_i32_14 : BitVec 32 := 0#32
  let v21 : BitVec 1 := Scalar.cmpi .ne v20 c0_i32_14
  v21

def k0_dev17 : Nat :=
  let c0_i32_29 : BitVec 32 := 0#32
  let c2_i32_27 : BitVec 32 := 2#32
  let c1_i32_28 : BitVec 32 := 1#32
  let v31 : BitVec 32 := Scalar.muli c2_i32_27 c1_i32_28
  let v32 : BitVec 32 := Scalar.addi c0_i32_29 v31
  v32.toNat
def k0_dev18 (d0 : Dev nD) : Nat :=
  let c0_i32_19_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_18_r0 : BitVec 32 := 1#32
  let v26_r0 : BitVec 32 := Scalar.muli v5 c1_i32_18_r0
  let v27_r0 : BitVec 32 := Scalar.addi c0_i32_19_r0 v26_r0
  v27_r0.toNat
def k0_dev19 (d0 : Dev nD) : Nat :=
  let c0_i32_22_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21_r0 : BitVec 32 := 1#32
  let v28_r0 : BitVec 32 := Scalar.muli v7 c1_i32_21_r0
  let v29_r0 : BitVec 32 := Scalar.addi c0_i32_22_r0 v28_r0
  v29_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x1024 : Shape := ⟨2, ![1024, 1024]⟩
abbrev S8192x1024 : Shape := ⟨2, ![8192, 1024]⟩
abbrev S1x2048x1024 : Shape := ⟨3, ![1, 2048, 1024]⟩
abbrev S1x8192x8x128 : Shape := ⟨4, ![1, 8192, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1x8x2048x8192 : Shape := ⟨4, ![1, 8, 2048, 8192]⟩
abbrev S1x1x2048x8192 : Shape := ⟨4, ![1, 1, 2048, 8192]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1x2048x1024, .f32⟩
  | .hbm, ⟨6, _⟩ => ⟨S1x8192x8x128, .f32⟩
  | .hbm, ⟨7, _⟩ => ⟨S1x8192x8x128, .f32⟩
  | .hbm, ⟨8, _⟩ => ⟨S1x2048x1024, .f32⟩
  | .hbm, ⟨9, _⟩ => ⟨S1x2048x8x128, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S8192, .i32⟩
  | .hbm, ⟨31, _⟩ => ⟨S_, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S1x8192, .i32⟩
  | .hbm, ⟨50, _⟩ => ⟨S2048x8192, .i32⟩
  | .hbm, ⟨51, _⟩ => ⟨S2048x8192, .i32⟩
  | .hbm, ⟨52, _⟩ => ⟨S2048x8192, .i1⟩
  | .hbm, ⟨53, _⟩ => ⟨S1x8x2048x8192, .f32⟩
  | .hbm, ⟨54, _⟩ => ⟨S_, .f32⟩
  | .hbm, ⟨55, _⟩ => ⟨S1x8x2048x8192, .f32⟩
  | .hbm, ⟨56, _⟩ => ⟨S1x8x2048x8192, .f32⟩
  | .hbm, ⟨57, _⟩ => ⟨S1x1x2048x8192, .i1⟩
  | .hbm, ⟨58, _⟩ => ⟨S_, .f32⟩
  | .hbm, ⟨59, _⟩ => ⟨S_, .f32⟩
  | .hbm, ⟨60, _⟩ => ⟨S1x8x2048x8192, .i1⟩
  | .hbm, ⟨61, _⟩ => ⟨S1x8x2048x8192, .f32⟩
  | .hbm, ⟨62, _⟩ => ⟨S1x8x2048x8192, .f32⟩
  | .hbm, ⟨63, _⟩ => ⟨S_, .f32⟩
  | .hbm, ⟨64, _⟩ => ⟨S1x8x2048, .f32⟩
  | .hbm, ⟨65, _⟩ => ⟨S1x8x2048x1, .f32⟩
  | .hbm, ⟨66, _⟩ => ⟨S1x8x2048x8192, .f32⟩
  | .hbm, ⟨67, _⟩ => ⟨S1x8x2048x8192, .f32⟩
  | .hbm, ⟨68, _⟩ => ⟨S1x8x2048x8192, .f32⟩
  | .hbm, ⟨69, _⟩ => ⟨S_, .i1⟩
  | .hbm, ⟨70, _⟩ => ⟨S2048, .i1⟩
  | .hbm, ⟨71, _⟩ => ⟨S1x1x2048x1, .i1⟩
  | .hbm, ⟨72, _⟩ => ⟨S_, .f32⟩
  | .hbm, ⟨73, _⟩ => ⟨S1x8x2048, .f32⟩
  | .hbm, ⟨74, _⟩ => ⟨S1x8x2048x1, .f32⟩
  | .hbm, ⟨75, _⟩ => ⟨S_, .f32⟩
  | .hbm, ⟨76, _⟩ => ⟨S_, .f32⟩
  | .hbm, ⟨77, _⟩ => ⟨S1x8x2048x1, .i1⟩
  | .hbm, ⟨78, _⟩ => ⟨S1x8x2048x1, .f32⟩
  | .hbm, ⟨79, _⟩ => ⟨S1x8x2048x1, .f32⟩
  | .hbm, ⟨80, _⟩ => ⟨S1x8x2048x8192, .f32⟩
  | .hbm, ⟨81, _⟩ => ⟨S1x8x2048x8192, .f32⟩
  | .hbm, ⟨82, _⟩ => ⟨S1x1x2048x1, .i1⟩
  | .hbm, ⟨83, _⟩ => ⟨S_, .f32⟩
  | .hbm, ⟨84, _⟩ => ⟨S_, .f32⟩
  | .hbm, ⟨85, _⟩ => ⟨S1x8x2048x8192, .i1⟩
  | .hbm, ⟨86, _⟩ => ⟨S1x8x2048x8192, .f32⟩
  | .hbm, ⟨87, _⟩ => ⟨S1x8x2048x8192, .f32⟩
  | .hbm, ⟨88, _⟩ => ⟨S1x8x128x2048, .f32⟩
  | .hbm, ⟨89, _⟩ => ⟨S1x2048x8x128, .f32⟩
  | .hbm, ⟨90, _⟩ => ⟨S1x2048x1024, .f32⟩
  | .hbm, ⟨91, _⟩ => ⟨S1x2048x1024, .f32⟩
  | .hbm, ⟨92, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩

abbrev nD : Nat := 1
abbrev τ : Topo := Topo.v7x

variable {F : FTy → Type} [FloatOps F]
-- ==== Proof.Protocol.lean ====
/-
The protocol of the kernel: who signals whom, who copies what to whom, and what each arrival hands over.

Four devices in a ring. Device 0 computes the attention context `ctx` (2048 rows) and sends it out in five slots of
rows; devices 1 and 3 receive it, device 2 receives the slots 0 to 3 from device 1 and the slot 4 from device 3.
Each device has seventeen cells:

* cell 0, the barrier: both neighbours signal once. A neighbour's signal hands over the slots of ITS context buffer
  which the signalled device will write.
* cell 1, the exit semaphore: both neighbours signal once, nothing is handed over.
* cells 2 to 6, the first set of send semaphores, one per slot: device 0's copies to device 1.
* cells 7 to 11, the second set of send semaphores: device 0's copies to device 3, device 1's and device 3's to device 2.
* cells 12 to 16, the receive semaphores, one per slot: the arrival hands over the slot with the context in it.

A send hands the share of the slot it reads back to the sender.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the protocol's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The neighbour whose signal has the given name: `true` from the device after, `false` from the device before. -/
def peer (c : Dev nD) (d : Bool) : Dev nD := if d then nxt c else prv c

/-! ## The cells -/

abbrev barS : Sem sig := (SemArray.scalar (sig.barrier 0 rfl) : Sems sig S_).sem
abbrev exitS : Sem sig := (cc0_scoped0 : Sems sig S_).sem

set_option backward.proofsInPublic true in
def csem : Fin 17 → SemLoc sig
  | ⟨0, _⟩ => .reg barS
  | ⟨1, _⟩ => .reg exitS
  | ⟨k + 2, h⟩ => .dma ⟨k + 7, lt_of_lt_of_eq (by omega : k + 7 < 22) rfl⟩

abbrev Key : Type := Dev nD × Fin 17
def kcell (ck : Key) : GSem nD τ sig := ((ck.1 : Thread nD τ), csem ck.2)

theorem csem_injective : Function.Injective csem := by decide
theorem kcell_injective : Function.Injective kcell := by
  rintro ⟨c, k⟩ ⟨c', k'⟩ h
  have h1 : c = c' := congrArg (fun g : GSem nD τ sig => g.1.1) h
  subst h1
  have h2 : csem k = csem k' := congrArg Prod.snd h
  rw [csem_injective h2]

/-- The cell a semaphore is, if it is one of the protocol's. -/
def dec (g : GSem nD τ sig) : Option Key :=
  open Classical in if h : ∃ ck, kcell ck = g then some h.choose else none
theorem dec_kcell (ck : Key) : dec (kcell ck) = some ck := by
  have h : ∃ ck', kcell ck' = kcell ck := ⟨ck, rfl⟩
  unfold dec; rw [dif_pos h]; exact congrArg some (kcell_injective h.choose_spec)
theorem dec_none {g : GSem nD τ sig} (h : ∀ ck, kcell ck ≠ g) : dec g = none := by
  unfold dec; exact dif_neg fun ⟨ck, e⟩ => h ck e

/-- The slot a send or receive cell is for. -/
def slotOf (k : Fin 17) : Fin 5 := ⟨(k.val + 3) % 5, Nat.mod_lt _ (by decide)⟩
def kA (i : Fin 5) : Fin 17 := ⟨i.val + 2, by omega⟩
def kB (i : Fin 5) : Fin 17 := ⟨i.val + 7, by omega⟩
def kR (i : Fin 5) : Fin 17 := ⟨i.val + 12, by omega⟩

/-! ## The slots of the context buffer -/

abbrev ctxM : Memref sig .tc .vmem S2048x1024 .bf16 := Memref.whole cc0_scratch0
abbrev CtxBuf (F : FTy → Type) : Type := (cc0_scratch0 : Ref sig .tc).ty.Contents (Elt F)

def slotRect : Fin 5 → Rect S2048x1024
  | 0 => Rect.unit (s := S2048x1024) ![0, 0] S512x1024.size inb_S2048x1024_S512x1024_0_0
  | 1 => Rect.unit (s := S2048x1024) ![512, 0] S512x1024.size inb_S2048x1024_S512x1024_512_0
  | 2 => Rect.unit (s := S2048x1024) ![1024, 0] S512x1024.size inb_S2048x1024_S512x1024_1024_0
  | 3 => Rect.unit (s := S2048x1024) ![1536, 0] S256x1024.size inb_S2048x1024_S256x1024_1536_0
  | 4 => Rect.unit (s := S2048x1024) ![1792, 0] S256x1024.size inb_S2048x1024_S256x1024_1792_0
theorem slotRect_stride : ∀ (i : Fin 5) (a), (slotRect i).stride a = 1
  | 0 => fun _ => rfl
  | 1 => fun _ => rfl
  | 2 => fun _ => rfl
  | 3 => fun _ => rfl
  | 4 => fun _ => rfl
def csemD (k : Fin 17) : DmaSem sig := ⟨k.val + 5, lt_of_lt_of_eq (by omega : k.val + 5 < 22) rfl⟩
theorem csem_dma {k : Fin 17} (h : 2 ≤ k.val) : csem k = .dma (csemD k) := by revert k; decide
def slotM (i : Fin 5) : Memref sig .tc .vmem (slotRect i).shape .bf16 := ctxM.slice (slotRect i) (slotRect_stride i)

/-- What a copy of the slot raises its semaphores by. -/
def slotN (i : Fin 5) : ℕ := (slotM i).view.dmaCredit
theorem slotN_pos (i : Fin 5) : 0 < slotN i := View.dmaCredit_pos _ (by revert i; decide)

/-- The slot `i` of device `c`'s context buffer at the share `q`, holding `f`. -/
def slotPts (c : Dev nD) (i : Fin 5) (q : PosShare TreeShare) (f : CtxBuf F) : sProp 𝕄 :=
  ((slotM i).view.loc (c : Thread nD τ) ↦[(slotM i).view.set]{q} f : sProp 𝕄)
instance slotPts_storable (c : Dev nD) (i : Fin 5) (q : PosShare TreeShare) (f : CtxBuf F) : BI.Storable (upEmb : UEmb _ 𝕄) (slotPts c i q f) := by
  have h : ∀ g : Buf (Elt F) ((slotM i).view.loc (c : Thread nD τ)),
      BI.Storable (upEmb : UEmb _ 𝕄) ((slotM i).view.loc (c : Thread nD τ) ↦[(slotM i).view.set]{q} g) := fun g => inferInstance
  exact h f

/-- The slot with some contents: ready to be written. -/
def slotAny (c : Dev nD) (i : Fin 5) : sProp 𝕄 := iprop(∃ f : CtxBuf F, slotPts c i fullShare f)
instance slotAny_storable (c : Dev nD) (i : Fin 5) : BI.Storable (upEmb : UEmb _ 𝕄) (slotAny (F := F) c i) := by
  unfold slotAny; infer_instance

/-! ## The shares of a slot: one per send, one kept for the device's own reads -/

def qA : PosShare TreeShare := fullShare.left
def qB : PosShare TreeShare := fullShare.right.left
def qC : PosShare TreeShare := fullShare.right.right

/-! ## The schedule -/

/-- Whether the cell has a duty. -/
def active (ck : Key) : Prop :=
  ck.2.val < 2 ∨ (ck.2.val < 7 ∧ ck.1 = 0)
    ∨ (7 ≤ ck.2.val ∧ ck.2.val < 12 ∧ (ck.1 = 0 ∨ (ck.1 = 1 ∧ ck.2.val < 11) ∨ (ck.1 = 3 ∧ ck.2.val = 11)))
    ∨ (12 ≤ ck.2.val ∧ ck.1 ≠ 0)
instance : DecidablePred active := fun ck => by unfold active; infer_instance

/-- The slots of `peer c d`'s buffer which device `c` writes. -/
def handed (c : Dev nD) (d : Bool) : List (Fin 5) :=
  if c = 0 then [0, 1, 2, 3, 4] else if c = 1 ∧ d = true then [0, 1, 2, 3] else if c = 3 ∧ d = false then [4] else []

def sepList {I : Type} (Φ : I → sProp 𝕄) : List I → sProp 𝕄
  | [] => iprop(emp)
  | i :: l => iprop(Φ i ∗ sepList Φ l)
instance sepList_storable {I : Type} (Φ : I → sProp 𝕄) [h : ∀ i, BI.Storable (upEmb : UEmb _ 𝕄) (Φ i)] :
    (l : List I) → BI.Storable (upEmb : UEmb _ 𝕄) (sepList (F := F) Φ l)
  | [] => by unfold sepList; infer_instance
  | i :: l => by
    have := sepList_storable Φ l
    unfold sepList; infer_instance

def barPay (c : Dev nD) (d : Bool) : sProp 𝕄 := sepList (slotAny (F := F) (peer c d)) (handed c d)
instance barPay_storable (c : Dev nD) (d : Bool) : BI.Storable (upEmb : UEmb _ 𝕄) (barPay (F := F) c d) := by
  unfold barPay; infer_instance

/-- What a cell's duty hands over. -/
def pay (X : CtxBuf F) (ck : Key) (d : Bool) : sProp 𝕄 :=
  if ck.2.val = 0 then barPay ck.1 d
  else if ck.2.val = 1 then iprop(emp)
  else if ck.2.val < 7 then slotPts ck.1 (slotOf ck.2) qA X
  else if ck.2.val < 12 then slotPts ck.1 (slotOf ck.2) (if ck.1 = 0 then qB else fullShare.left) X
  else slotPts ck.1 (slotOf ck.2) fullShare X
instance pay_storable (X : CtxBuf F) (ck : Key) (d : Bool) : BI.Storable (upEmb : UEmb _ 𝕄) (pay X ck d) := by
  unfold pay; (repeat' split) <;> infer_instance

/-- How much each payment on a cell is. -/
def amt (k : Fin 17) : ℕ := if k.val < 2 then 1 else slotN (slotOf k)
theorem amt_pos (k : Fin 17) : 0 < amt k := by
  unfold amt; split
  · exact Nat.one_pos
  · exact slotN_pos _

/-- The duties of a cell. -/
def dut (ck : Key) : Finset Bool := if ck.2.val < 2 then Finset.univ else if active ck then {false} else ∅

/-- One round: round 0. -/
def sched (X : CtxBuf F) : Rounds.Schedule (GSem nD τ sig) Bool 𝕄 where
  duties g r := if r = 0 then (match dec g with | some ck => dut ck | none => ∅) else ∅
  unitless _ := False
  amount g _ _ := match dec g with | some ck => amt ck.2 | none => 1
  payload g _ d := match dec g with | some ck => pay X ck d | none => iprop(emp)
  amount_pos g _ _ _ := by
    cases dec g with
    | some ck => exact amt_pos _
    | none => exact Nat.one_pos

instance sched_payload_storable (X : CtxBuf F) (g : GSem nD τ sig) (r : ℕ) (d : Bool) :
    BI.Storable (upEmb : UEmb _ 𝕄) ((sched X).payload g r d) := by
  show BI.Storable upEmb (match dec g with | some ck => pay X ck d | none => iprop(emp))
  split <;> infer_instance

section Sched
variable (X : CtxBuf F) (ck : Key)

omit [FloatOps F] in
theorem duties_eq : (sched X).duties (kcell ck) 0 = dut ck := by
  show (if (0 : ℕ) = 0 then (match dec (kcell ck) with | some ck => dut ck | none => ∅) else ∅) = _
  rw [if_pos rfl, dec_kcell]
omit [FloatOps F] in
theorem duties_later (g : GSem nD τ sig) : ∀ r, 1 ≤ r → (sched X).duties g r = ∅ := fun r hr => by
  show (if r = 0 then _ else ∅) = ∅
  exact if_neg (by omega)
omit [FloatOps F] in
theorem duties_inactive (h : dut ck = ∅) : ∀ r, 0 ≤ r → (sched X).duties (kcell ck) r = ∅ := fun r _ => by
  rcases Nat.eq_zero_or_pos r with rfl | hr
  · rw [duties_eq, h]
  · exact duties_later X _ r hr
omit [FloatOps F] in
theorem amount_eq (r : ℕ) (d : Bool) : (sched X).amount (kcell ck) r d = amt ck.2 := by
  show (match dec (kcell ck) with | some ck => amt ck.2 | none => 1) = _
  rw [dec_kcell]
omit [FloatOps F] in
theorem payload_eq (r : ℕ) (d : Bool) : (sched X).payload (kcell ck) r d = pay X ck d := by
  show (match dec (kcell ck) with | some ck => pay X ck d | none => iprop(emp)) = _
  rw [dec_kcell]
omit [FloatOps F] in
theorem expect_eq : (sched X).expect (kcell ck) 0 = (dut ck).card * amt ck.2 := by
  unfold Schedule.expect Schedule.amountOf
  rw [duties_eq, Finset.sum_congr rfl fun d _ => amount_eq X ck 0 d, Finset.sum_const, smul_eq_mul]

omit [FloatOps F] in
/-- The rest of a barrier cell's round, no duty taken: what both neighbours hand over. -/
theorem rest_two (h : dut ck = Finset.univ) :
    bigSep ((sched X).duties (kcell ck) 0 \ ∅) (fun d => (sched X).payload (kcell ck) 0 d) = iprop(pay X ck true ∗ pay X ck false) := by
  rw [Finset.sdiff_empty, duties_eq, h, bigSep_univ_eq_bigSepL [true, false] (by decide) (by decide), bigSepL_cons_cons, bigSepL_singleton,
    payload_eq, payload_eq]
  rfl
omit [FloatOps F] in
theorem rest_one (h : dut ck = {false}) :
    bigSep ((sched X).duties (kcell ck) 0 \ ∅) (fun d => (sched X).payload (kcell ck) 0 d) = pay X ck false := by
  rw [Finset.sdiff_empty, duties_eq, h, bigSep_singleton, payload_eq]

end Sched

/-! ## What is owed: a list of payments, the next one first; the levels -/

def owe : List Key → CellTallies nD τ sig Unit
  | [] => 0
  | p :: l => owe l + tallyAt (kcell p) () (amt p.2)

theorem owe_apply (l : List Key) (ck : Key) : owe l (kcell ck) () = l.count ck * amt ck.2 := by
  induction l with
  | nil => rw [List.count_nil, Nat.zero_mul]; rfl
  | cons p l ih =>
    show owe l (kcell ck) () + tallyAt (kcell p) () (amt p.2) (kcell ck) () = _
    rw [ih, tallyAt_apply]
    by_cases h : p = ck
    · subst h; rw [if_pos ⟨rfl, rfl⟩, List.count_cons_self, Nat.add_mul, Nat.one_mul]
    · rw [if_neg (fun h' => h (kcell_injective h'.1.symm)), List.count_cons_of_ne h, Nat.add_zero]
theorem owe_pos {l : List Key} {g : GSem nD τ sig} {u : Unit} (h : 0 < owe l g u) : ∃ p ∈ l, g = kcell p := by
  induction l with
  | nil => exact absurd h (Nat.lt_irrefl 0)
  | cons p l ih =>
    have h' : 0 < owe l g u + tallyAt (kcell p) () (amt p.2) g u := h
    rw [tallyAt_apply] at h'
    by_cases hg : g = kcell p ∧ u = ()
    · exact ⟨p, List.mem_cons_self, hg.1⟩
    · rw [if_neg hg, Nat.add_zero] at h'
      obtain ⟨q, hq, e⟩ := ih h'
      exact ⟨q, List.mem_cons_of_mem _ hq, e⟩

/-- Device `c`'s copies, in program order: the receive cells they land on. -/
def sends (c : Dev nD) : List Key :=
  if c = 0 then [(1, 12), (3, 12), (1, 13), (3, 13), (1, 14), (3, 14), (1, 15), (1, 16), (3, 16), (3, 15)]
  else if c = 1 then [(2, 12), (2, 13), (2, 14), (2, 15)] else if c = 3 then [(2, 16)] else []
def exits (c : Dev nD) : List Key := [(prv c, 1), (nxt c, 1)]
def debts (c : Dev nD) : List Key := (prv c, 0) :: (nxt c, 0) :: (sends c ++ exits c)

/-- Levels: what is waited for before another thing is paid is below it. -/
def lvl (ck : Key) : ℕ :=
  if ck.2.val = 0 then 1 else if ck.2.val = 1 then 5 else if ck.2.val < 12 then 1 else if ck.1 = 2 then 3 else 2

def L (g : GSem nD τ sig) : Finset Unit := if g.1.2 = .tc then {()} else ∅
def lv (g : GSem nD τ sig) (_ : Unit) : ℕ := match dec g with | some ck => lvl ck | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Key) (u : Unit) : lv (kcell ck) u = lvl ck := by unfold lv; rw [dec_kcell]
theorem lv_none {g : GSem nD τ sig} (h : ∀ ck, kcell ck ≠ g) (u : Unit) : lv g u = 0 := by unfold lv; rw [dec_none h]

theorem lvl_pos (ck : Key) : 0 < lvl ck := by revert ck; decide

omit [FloatOps F] in
/-- A device may wait on a semaphore below everything it owes. -/
theorem mayWait_of (c : Dev nD) (sm : SemLoc sig) (l : List Key) (h : ∀ p ∈ l, lv ((c : Thread nD τ), sm) () < lvl p) :
    (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp])
    (fun g u hg => by obtain ⟨p, hp, rfl⟩ := owe_pos hg; rw [lv_kcell]; exact h p hp)
omit [FloatOps F] in
theorem mayWait_key (ck : Key) (l : List Key) (h : ∀ p ∈ l, lvl ck < lvl p) :
    (levAts L lv : sProp 𝕄) ⊢ MayWait (ck.1 : Thread nD τ) (csem ck.2) () (owe l) :=
  mayWait_of ck.1 (csem ck.2) l fun p hp => lt_of_eq_of_lt (lv_kcell ck ()) (h p hp)
omit [FloatOps F] in
/-- Or on a semaphore which is not the protocol's. -/
theorem mayWait_none (c : Dev nD) (sm : SemLoc sig) (hsm : ∀ k, csem k ≠ sm) (l : List Key) :
    (levAts L lv : sProp 𝕄) ⊢ MayWait (c : Thread nD τ) sm () (owe l) :=
  mayWait_of c sm l fun p _ =>
    lt_of_eq_of_lt (lv_none (fun ck e => hsm ck.2 (show (kcell ck).2 = sm by rw [e])) ()) (lvl_pos p)

end Cert.KProof

end
-- ==== Proof.Moves.lean ====
/-
The moves of the protocol: a signal, a copy of a slot, a wait, each as one step of a device's program.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What everyone may use: every cell's invariant, and that every cell is at its round -/

def known (X : CtxBuf F) (K : Key → ℕ) : sProp 𝕄 :=
  iprop((bigSep Finset.univ fun ck => cellInv ER (sched X) (K ck) (kcell ck)) ∗ bigSep Finset.univ fun ck => reached (ER (F := F)) (kcell ck) 0)
instance known_persistent (X : CtxBuf F) (K : Key → ℕ) : BI.Persistent (known X K) := by unfold known; infer_instance

/-- What device `c` owes, whatever it has waited on. -/
def ow (c : Dev nD) (l : List Key) : sProp 𝕄 := iprop(∃ W, owes (c : Thread nD τ) (owe l) W)
def tok (ck : Key) (b : Bool) : sProp 𝕄 := dutyTok (ER (F := F)) (kcell ck) 0 b
/-- Cell `ck` before its round and after it. -/
def at0 (ck : Key) : sProp 𝕄 := atPos (ER (F := F)) (kcell ck) 0 ∅ 0
def at1 (ck : Key) : sProp 𝕄 := atPos (ER (F := F)) (kcell ck) 1 ∅ 0
def crd (ck : Key) (n : ℕ) : sProp 𝕄 := cred (tallyAt (kcell ck) () n)

section Moves
variable (X : CtxBuf F) (K : Key → ℕ)

omit [FloatOps F] in
theorem known_inv (ck : Key) : known X K ⊢ cellInv ER (sched X) (K ck) (kcell ck) := by
  refine (show known X K ⊢ _ from by unfold known; iintro ⟨#H, -⟩; iexact H : _).trans (bigSep_elim (Finset.mem_univ ck) (Φ := fun ck => cellInv ER (sched X) (K ck) (kcell ck)))
omit [FloatOps F] in
theorem known_reached (ck : Key) : known X K ⊢ reached (ER (F := F)) (kcell ck) 0 := by
  refine (show known X K ⊢ _ from by unfold known; iintro ⟨-, #H⟩; iexact H : _).trans (bigSep_elim (Finset.mem_univ ck) (Φ := fun ck => reached (ER (F := F)) (kcell ck) 0))

variable {α : Type} {Q : α → sProp (MT nD τ sig Unit (Elt F) ℕ UU ℕ)}

/-- A signal to a barrier or exit cell of `e`, paying the debt due next. -/
theorem pay_signal (c e n : Dev nD) (hn : n = e) (k : Fin 17) (s : Sem sig) (hs : csem k = .reg s) (b : Bool)
    (hd : b ∈ dut (e, k)) (ha : amt k = 1) (l : List Key) {kt : PUnit → Prog (TpuEff nD τ sig (Elt F) Λ₀ .tc) α} :
    known X K ⊢ iprop(ow (F := F) c ((e, k) :: l) -∗ tok (F := F) (e, k) b -∗ pay X (e, k) b
        -∗ (ow (F := F) c l -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (n : Thread nD τ) s (1#32 : BitVec 32).toInt) kt) Q) := by
  subst hn
  have hk : kcell (n, k) = ((n : Thread nD τ), SemLoc.reg s) := by unfold kcell; rw [hs]
  have h1 := duties_eq X (n, k)
  have h2 := amount_eq X (n, k) 0 b
  have h3 := payload_eq X (n, k) 0 b
  have hO : owe ((n, k) :: l) = owe l + tallyAt (kcell (n, k)) () (amt k) := rfl
  have hi := known_inv X K (n, k)
  have hr := known_reached X K (n, k)
  unfold ow tok
  rw [← h3, hO]
  rw [hk] at h1 h2 h3 hO hi hr
  rw [hk]
  iintro #Hk ⟨%W, HO⟩ Ht Hp Hw
  ihave #Hi := hi $$ Hk
  ihave #Hr := hr $$ Hk
  iapply (Rounds.wp_signal 𝒱₀ ER (sched X) (c : Thread nD τ) none (dst := (n : Thread nD τ)) (κ := K (n, k)) (d := b)
    (by rw [h1]; exact hd) (h2.trans ha) () (owe l)
    (O₀ := owe l + tallyAt ((n : Thread nD τ), SemLoc.reg s) () (amt k)) (by rw [ha])) $$ [HO Ht Hp]
  · isplitr; · iexact Hi
    isplitl [HO]; · iexact HO
    isplitl [Ht]; · iexact Ht
    isplitl [Hp]; · iexact Hp
    iexact Hr
  iintro HO
  iapply Hw
  iexists W; iexact HO

/-- A wait for a whole round on one of the device's own cells. -/
theorem wait_round (c : Dev nD) (k : Fin 17) {w : TpuEff nD τ sig (Elt F) Λ₀ .tc PUnit} {sm : SemLoc sig} {a : ℕ}
    (hw : ∀ Kt : PUnit → sProp 𝕄, wpE (defs₀ (F := F)) 𝒱₀ (c : Thread nD τ) none Set.univ w Kt = waitSpec (c : Thread nD τ) Set.univ sm a Kt)
    (hs : csem k = sm) (ha : (dut (c, k)).card * amt k = a) (l : List Key) (hl : ∀ p ∈ l, lvl (c, k) < lvl p)
    {kt : PUnit → Prog (TpuEff nD τ sig (Elt F) Λ₀ .tc) α} :
    known X K ⊢ iprop(levAts L lv -∗ crd (F := F) (c, k) a -∗ ow (F := F) c l -∗ at0 (F := F) (c, k)
        -∗ ((ow (F := F) c l ∗ at1 (F := F) (c, k) ∗ bigSep ((sched X).duties (kcell (c, k)) 0 \ ∅) fun d => (sched X).payload (kcell (c, k)) 0 d)
          -∗ wp frame (wpE (defs₀ (F := F)) 𝒱₀ (c : Thread nD τ) none) Set.univ (kt ⟨⟩) Q)
        -∗ wp frame (wpE (defs₀ (F := F)) 𝒱₀ (c : Thread nD τ) none) Set.univ (.op w kt) Q) := by
  subst hs
  unfold crd ow at0 at1
  iintro #Hk #Hlev Hc ⟨%W, HO⟩ Hat Hw
  ihave #Hi := (known_inv X K (c, k)) $$ Hk
  iapply (Rounds.wp_wait_rest_token 𝒱₀ ER (sched X) (c : Thread nD τ) none (κ := K (c, k)) hw (Set.mem_univ _) ()
    (O := owe l) (W := W) (R := 0) (m := 0) (T := ∅)
    (by rw [Nat.zero_add, show (((c : Thread nD τ), csem k) : GSem nD τ sig) = kcell (c, k) from rfl, expect_eq, ha])) $$ [Hc HO Hat]
  · isplitr; · iexact Hi
    isplitl [Hc]; · iexact Hc
    isplitl [HO]; · iexact HO
    isplitr; · iapply (mayWait_key (c, k) l hl); iexact Hlev
    iexact Hat
  iintro ⟨HO, Hat, -, Hp⟩
  iapply Hw
  isplitl [HO]; · iexists _; iexact HO
  isplitl [Hat]; · iexact Hat
  iexact Hp

/-- A wait on a barrier or exit cell, both neighbours' payments. -/
theorem wait_both (c : Dev nD) (k : Fin 17) (s : Sem sig) (hs : csem k = .reg s) (hd : dut (c, k) = Finset.univ) (ha : amt k = 1)
    (l : List Key) (hl : ∀ p ∈ l, lvl (c, k) < lvl p) {kt : PUnit → Prog (TpuEff nD τ sig (Elt F) Λ₀ .tc) α} :
    known X K ⊢ iprop(levAts L lv -∗ crd (F := F) (c, k) 2 -∗ ow (F := F) c l -∗ at0 (F := F) (c, k)
        -∗ ((ow (F := F) c l ∗ at1 (F := F) (c, k) ∗ pay X (c, k) true ∗ pay X (c, k) false)
          -∗ wp frame (wpE (defs₀ (F := F)) 𝒱₀ (c : Thread nD τ) none) Set.univ (kt ⟨⟩) Q)
        -∗ wp frame (wpE (defs₀ (F := F)) 𝒱₀ (c : Thread nD τ) none) Set.univ (.op (.semWait s (2#32 : BitVec 32).toInt) kt) Q) := by
  have h := wait_round X K (Q := Q) c k (wpE_semWait_eq (k := 2) 𝒱₀ (c : Thread nD τ) none Set.univ (sem := s)) hs
    (by rw [hd, ha]; rfl) l hl (kt := kt)
  rw [rest_two X (c, k) hd] at h
  exact h

/-- A wait on a send or receive cell: the slot's payload. -/
theorem wait_slot (c : Dev nD) (k : Fin 17) (hk : 2 ≤ k.val) (hd : dut (c, k) = {false}) (l : List Key) (hl : ∀ p ∈ l, lvl (c, k) < lvl p)
    {kt : PUnit → Prog (TpuEff nD τ sig (Elt F) Λ₀ .tc) α}
    {sp sp' : Space} {sh sh' : Shape} {e e' : EltTy} {src : Memref sig .tc sp' sh' e'} {dst : Memref sig .tc sp sh e}
    {hsrc : src.view.WordExact} {hdst : dst.view.WordExact} (ha : dst.view.dmaCredit = amt k) :
    known X K ⊢ iprop(levAts L lv -∗ crd (F := F) (c, k) (amt k) -∗ ow (F := F) c l -∗ at0 (F := F) (c, k)
        -∗ ((ow (F := F) c l ∗ at1 (F := F) (c, k) ∗ pay X (c, k) false)
          -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 (csemD k) src dst hsrc hdst) kt) Q) := by
  have h := wait_round X K (Q := Q) c k (a := amt k) (sm := .dma (csemD k)) (w := .waitDma2 (csemD k) src dst hsrc hdst)
    (fun Kt => by rw [← ha]; exact wpE_waitDma2_eq 𝒱₀ (c : Thread nD τ) none Set.univ Kt) (csem_dma hk)
    (by rw [hd, Finset.card_singleton, Nat.one_mul]) l hl (kt := kt)
  rw [rest_one X (c, k) hd] at h
  exact h

/-- A copied slot holds what the source holds. -/
theorem slot_write (i : Fin 5) (f g : CtxBuf F) :
    ∀ j ∈ (slotM i).view.set, (slotM i).view.write (Elt F) f ((slotM i).view.read (Elt F) g) Finset.univ j = g j := by
  intro j hj
  exact (congrFun (View.write_read_eq_piecewise (v := (slotM i).view) (Val := Elt F) f g Finset.univ) j).trans
    (Finset.piecewise_eq_of_mem _ _ _ (by rw [View.setOn_univ]; exact hj))

/-- The copy of slot `i` to device `e`, paying the debt due next. -/
theorem send_slot (c e n : Dev nD) (hn : n = e) (i : Fin 5) (kS kD : Fin 17) (hkS : 2 ≤ kS.val) (hkD : 2 ≤ kD.val) (q : PosShare TreeShare)
    (hdS : dut (c, kS) = {false}) (hdD : dut (e, kD) = {false}) (haS : amt kS = slotN i) (haD : amt kD = slotN i)
    (hpS : pay X (c, kS) false = slotPts c i q X) (hpD : pay X (e, kD) false = slotPts e i fullShare X) (l : List Key)
    {hsc : (slotM i : Memref sig (n : Thread nD τ).2.kind .vmem (slotRect i).shape .bf16).view.ref.isScScratch = false}
    {hsrc : (slotM i).view.WordExact} {hdst : (slotM i).view.WordExact}
    {hsem : DmaTarget.Typed .vmem (.dma (csemD kD)) (.remote (n : Thread nD τ) (slotM i) (.dma (csemD kS)) hsc)}
    {kt : PUnit → Prog (TpuEff nD τ sig (Elt F) Λ₀ .tc) α} :
    known X K ⊢ iprop(ow (F := F) c ((e, kD) :: l) -∗ tok (F := F) (c, kS) false -∗ tok (F := F) (e, kD) false
        -∗ slotPts c i q X -∗ slotAny (F := F) e i -∗ ((ow (F := F) c l ∗ crd (F := F) (c, kS) (amt kS)) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma (slotM i) (.remote (n : Thread nD τ) (slotM i) (.dma (csemD kS)) hsc) (.dma (csemD kD)) hsrc hdst hsem) kt) Q) := by
  subst hn
  have ekS : kcell (c, kS) = ((c : Thread nD τ), SemLoc.dma (csemD kS)) := by unfold kcell; rw [csem_dma hkS]
  have ekD : kcell (n, kD) = ((n : Thread nD τ), SemLoc.dma (csemD kD)) := by unfold kcell; rw [csem_dma hkD]
  have dS := (duties_eq X (c, kS)).trans hdS
  have dD := (duties_eq X (n, kD)).trans hdD
  have aS := (amount_eq X (c, kS) 0 false).trans haS
  have aD := (amount_eq X (n, kD) 0 false).trans haD
  have pS := (payload_eq X (c, kS) 0 false).trans hpS
  have pD := (payload_eq X (n, kD) 0 false).trans hpD
  have hO : owe ((n, kD) :: l) = owe l + tallyAt (kcell (n, kD)) () (amt kD) := rfl
  have iS := known_inv X K (c, kS)
  have iD := known_inv X K (n, kD)
  have rS := known_reached X K (c, kS)
  have rD := known_reached X K (n, kD)
  unfold ow tok crd slotAny slotPts
  rw [hO]
  rw [ekS] at dS aS pS iS rS
  rw [ekD] at dD aD pD hO iD rD
  rw [ekS, ekD]
  iintro #Hk ⟨%W, HO⟩ HtS HtD Hsrc ⟨%fn, Hdst⟩ Hw
  ihave #HiS := iS $$ Hk
  ihave #HrS := rS $$ Hk
  ihave #HiD := iD $$ Hk
  ihave #HrD := rD $$ Hk
  iapply (Rounds.wp_send_pointsTo 𝒱₀ ER (sched X) (c : Thread nD τ) none (κ₁ := K (c, kS)) (κ₂ := K (n, kD))
    (r₁ := 0) (r₂ := 0) (d₁ := false) (d₂ := false) (fs := X) (fd := fn) (q := q)
    (by rw [dS]; exact Finset.mem_singleton_self _) (by rw [dD]; exact Finset.mem_singleton_self _)
    () () (slotN i) rfl aS aD (owe l) (O₀ := owe l + tallyAt ((n : Thread nD τ), SemLoc.dma (csemD kD)) () (amt kD)) (by rw [haD]) (W := W)
    (by rw [pS]; exact BI.Entails.refl _)
    (by rw [pD]; exact Entails.of_eq (pointsTo_congr (slot_write i fn X)))) $$ [HO HtS HtD Hsrc Hdst]
  · isplitr; · iexact HiS
    isplitr; · iexact HiD
    isplitl [Hsrc]; · iexact Hsrc
    isplitl [Hdst]; · iexact Hdst
    isplitl [HO]; · iexact HO
    isplitl [HtS]; · iexact HtS
    isplitr; · iexact HrS
    isplitl [HtD]; · iexact HtD
    iexact HrD
  iintro ⟨Hc, HO⟩
  iapply Hw
  isplitl [HO]; · iexists W; iexact HO
  rw [haS]; iexact Hc

/-- A cell whose round is over, or which has none, closes. -/
theorem close_done (ck : Key) : iprop(known X K ∗ at1 (F := F) ck) ⊢ iprop(|={Set.univ}=> semVal (kcell ck) 0) := by
  unfold at1
  iintro ⟨#Hk, Hat⟩
  ihave #Hi := (known_inv X K ck) $$ Hk
  imod (Rounds.cell_close ER (sched X) (Set.mem_univ (K ck)) (fun h => h) (R := 0 + 1) (duties_later X (kcell ck))) $$ [Hat] with Hz
  · isplitr; · iexact Hi
    iexact Hat
  imodintro; iexact Hz
theorem close_idle (ck : Key) (h : dut ck = ∅) : iprop(known X K ∗ at0 (F := F) ck) ⊢ iprop(|={Set.univ}=> semVal (kcell ck) 0) := by
  unfold at0
  iintro ⟨#Hk, Hat⟩
  ihave #Hi := (known_inv X K ck) $$ Hk
  imod (Rounds.cell_close ER (sched X) (Set.mem_univ (K ck)) (fun h => h) (R := 0) (duties_inactive X ck h)) $$ [Hat] with Hz
  · isplitr; · iexact Hi
    iexact Hat
  imodintro; iexact Hz

end Moves

end Cert.KProof

end
-- ==== Proof.Contents.lean ====
/-
The contents of the buffers: the slots of the context, and the result as one function of the context and the output weights.
-/
module

public import proofs.«01_k».proof.Proof.Moves

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One function from values on pairwise disjoint rectangles -/

/-- The function holding `v i` on rectangle `R i`, and `d` outside of them all. -/
def glue {ι : Type} {s : Shape} {α : Type} (R : ι → Rect s) (v : ∀ i, (R i).shape.Idx → α) (d : α) (j : s.Idx) : α :=
  open Classical in if h : ∃ p : (i : ι) × (R i).shape.Idx, (R p.1).emb p.2 = j then v h.choose.1 h.choose.2 else d

theorem emb_mem {s : Shape} (r : Rect s) (x : r.shape.Idx) : r.emb x ∈ r.set := by
  rw [← Rect.map_emb_univ]; exact Finset.mem_map_of_mem _ (Finset.mem_univ x)

theorem glue_emb {ι : Type} {s : Shape} {α : Type} (R : ι → Rect s) (hR : ∀ i i', i ≠ i' → Disjoint (R i).set (R i').set)
    (v : ∀ i, (R i).shape.Idx → α) (d : α) (i : ι) (x : (R i).shape.Idx) : glue R v d ((R i).emb x) = v i x := by
  have h : ∃ p : (i : ι) × (R i).shape.Idx, (R p.1).emb p.2 = (R i).emb x := ⟨⟨i, x⟩, rfl⟩
  have key : ∀ p : (i : ι) × (R i).shape.Idx, (R p.1).emb p.2 = (R i).emb x → p = ⟨i, x⟩ := by
    rintro ⟨i', x'⟩ e
    have hi : i' = i := by
      by_contra hne
      refine Finset.disjoint_left.mp (hR i' i hne) (emb_mem (R i') x') ?_
      rw [show (R i').emb x' = (R i).emb x from e]; exact emb_mem (R i) x
    subst hi
    rw [(R i').emb.injective (show (R i').emb x' = (R i').emb x from e)]
  unfold glue
  rw [dif_pos h, key _ h.choose_spec]

/-! ## The slots cover the context buffer and are disjoint -/

theorem slotM_set (i : Fin 5) : (slotM i).view.set = (slotRect i).set := by
  unfold slotM; exact View.set_slice_whole _ _

/-- The first row and the number of rows of a slot. -/
def slotRow : Fin 5 → ℕ := ![0, 512, 1024, 1536, 1792]
def slotLen : Fin 5 → ℕ := ![512, 512, 512, 256, 256]

theorem rows_mem (o n : ℕ) (inb) (j : S2048x1024.Idx) :
    j ∈ (Rect.unit (s := S2048x1024) ![o, 0] ![n, 1024] inb).set ↔ o ≤ (j 0).val ∧ (j 0).val < o + n := by
  have h1 : (j 1).val < 1024 := (j 1).isLt
  rw [Rect.mem_set_unit]
  constructor
  · exact fun h => h 0
  · intro h a
    fin_cases a
    · exact h
    · exact ⟨Nat.zero_le _, by show (j 1).val < 0 + 1024; omega⟩

theorem mem_slot : ∀ (i : Fin 5) (j : S2048x1024.Idx), j ∈ (slotRect i).set ↔ slotRow i ≤ (j 0).val ∧ (j 0).val < slotRow i + slotLen i := by
  intro i j
  have h1 : (j 1).val < 1024 := (j 1).isLt
  match i with
  | 0 => exact rows_mem _ _ inb_S2048x1024_S512x1024_0_0 j
  | 1 => exact rows_mem _ _ inb_S2048x1024_S512x1024_512_0 j
  | 2 => exact rows_mem _ _ inb_S2048x1024_S512x1024_1024_0 j
  | 3 => exact rows_mem _ _ inb_S2048x1024_S256x1024_1536_0 j
  | 4 => exact rows_mem _ _ inb_S2048x1024_S256x1024_1792_0 j

theorem slot_disjoint (i i' : Fin 5) (h : i ≠ i') : Disjoint (slotRect i).set (slotRect i').set := by
  refine Finset.disjoint_left.mpr fun j h1 h2 => ?_
  rw [mem_slot] at h1 h2
  revert h h1 h2
  generalize (j 0).val = n
  fin_cases i <;> fin_cases i' <;> simp [slotRow, slotLen] <;> omega

theorem slot_cover (j : S2048x1024.Idx) : ∃ i, j ∈ (slotRect i).set := by
  have h : (j 0).val < 2048 := (j 0).isLt
  rcases lt_or_ge (j 0).val 512 with h0 | h0
  · exact ⟨0, (mem_slot 0 j).mpr ⟨by show 0 ≤ _; omega, by show _ < 0 + 512; omega⟩⟩
  rcases lt_or_ge (j 0).val 1024 with h1 | h1
  · exact ⟨1, (mem_slot 1 j).mpr ⟨by show 512 ≤ _; omega, by show _ < 512 + 512; omega⟩⟩
  rcases lt_or_ge (j 0).val 1536 with h2 | h2
  · exact ⟨2, (mem_slot 2 j).mpr ⟨by show 1024 ≤ _; omega, by show _ < 1024 + 512; omega⟩⟩
  rcases lt_or_ge (j 0).val 1792 with h3 | h3
  · exact ⟨3, (mem_slot 3 j).mpr ⟨by show 1536 ≤ _; omega, by show _ < 1536 + 256; omega⟩⟩
  · exact ⟨4, (mem_slot 4 j).mpr ⟨by show 1792 ≤ _; omega, by show _ < 1792 + 256; omega⟩⟩

theorem slots_univ : (Finset.univ : Finset (Fin 5)).biUnion (fun i => (slotRect i).set) = Finset.univ :=
  Finset.eq_univ_iff_forall.mpr fun j => by
    obtain ⟨i, hi⟩ := slot_cover j
    exact Finset.mem_biUnion.mpr ⟨i, Finset.mem_univ _, hi⟩

def ctxPts (c : Dev nD) (f : CtxBuf F) : sProp 𝕄 := (((c : Thread nD τ).loc cc0_scratch0) ↦{fullShare} f : sProp 𝕄)
def ctxAny (c : Dev nD) : sProp 𝕄 := iprop(∃ f : CtxBuf F, ctxPts c f)

omit [FloatOps F] in
theorem slotPts_eq (c : Dev nD) (i : Fin 5) (q : PosShare TreeShare) (f : CtxBuf F) :
    slotPts c i q f = (((c : Thread nD τ).loc cc0_scratch0) ↦[(slotRect i).set]{q} f : sProp 𝕄) := by
  unfold slotPts
  have h : ((slotM i).view.loc (c : Thread nD τ) ↦[(slotM i).view.set]{q} f : sProp 𝕄)
      = (((c : Thread nD τ).loc cc0_scratch0) ↦[(slotM i).view.set]{q} f : sProp 𝕄) := rfl
  rw [h, slotM_set]

omit [FloatOps F] in
theorem sepList_eq {I : Type} [DecidableEq I] (Φ : I → sProp 𝕄) : ∀ l : List I, l.Nodup → sepList Φ l = bigSep l.toFinset Φ
  | [], _ => by rw [List.toFinset_nil, bigSep_empty]; rfl
  | i :: l, h => by
    rw [List.toFinset_cons, bigSep_insert (by rw [List.mem_toFinset]; exact (List.nodup_cons.mp h).1), ← sepList_eq Φ l (List.nodup_cons.mp h).2]
    rfl

omit [FloatOps F] in
theorem slots_list (Φ : Fin 5 → sProp 𝕄) : sepList Φ [0, 1, 2, 3, 4] = bigSep Finset.univ Φ := by
  rw [sepList_eq Φ _ (by decide)]; rfl

omit [FloatOps F] in
/-- A context buffer held whole is its slots. -/
theorem ctx_slots (c : Dev nD) (f : CtxBuf F) : ctxPts c f = sepList (fun i => slotPts c i fullShare f) [0, 1, 2, 3, 4] := by
  rw [slots_list]
  unfold ctxPts
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 5)) (fun i => (slotRect i).set)
    (fun i _ i' _ h => slot_disjoint i i' h)
  rw [slots_univ] at h
  refine h.trans (bigSep_congr fun i _ => (slotPts_eq c i fullShare f).symm)

omit [FloatOps F] in
/-- Slots ready to be written, from a whole buffer. -/
theorem ctx_give (c : Dev nD) : ctxAny (F := F) c ⊢ sepList (slotAny (F := F) c) [0, 1, 2, 3, 4] := by
  unfold ctxAny
  iintro ⟨%f, H⟩
  ihave H' := (Entails.of_eq ((ctx_slots c f).trans (slots_list _))) $$ H
  have h : bigSep Finset.univ (fun i => slotPts c i fullShare f) ⊢ bigSep Finset.univ (slotAny (F := F) c) :=
    bigSep_mono fun i _ => (show slotPts c i fullShare f ⊢ slotAny (F := F) c i from by unfold slotAny; iintro H; iexists f; iexact H)
  rw [slots_list]
  iapply h; iexact H'

omit [FloatOps F] in
theorem ctx_back (c : Dev nD) (f : CtxBuf F) : sepList (fun i => slotPts c i fullShare f) [0, 1, 2, 3, 4] ⊢ ctxAny (F := F) c := by
  rw [← ctx_slots]; unfold ctxAny; iintro H; iexists f; iexact H

/-! ## The result -/

/-- What a load of slot `i` of the context buffer gives. -/
def slotVal (X : CtxBuf F) (i : Fin 5) : Vec F (slotRect i).shape .bf16 := ctxM.view.readAt (Elt F) (slotRect i).toLoadRect X

abbrev WoBuf (F : FTy → Type) : Type := (cc0_stg3_0 : Ref sig .tc).ty.Contents (Elt F)
abbrev OutBuf (F : FTy → Type) : Type := (cc0_stg4_0 : Ref sig .tc).ty.Contents (Elt F)

abbrev woM : Memref sig .tc .vmem S1024x1024 .f32 := Memref.whole cc0_stg3_0
abbrev outM : Memref sig .tc .vmem S2048x1024 .f32 := Memref.whole cc0_stg4_0

/-- The whole of the output weights, as a load gives it. -/
def woVal (W : WoBuf F) : Vec F S1024x1024 .f32 :=
  woM.view.readAt (Elt F) (Rect.unit (s := S1024x1024) ![0, 0] S1024x1024.size inb_S1024x1024_S1024x1024_0_0).toLoadRect W

/-- The slot's rows of the result. -/
def proj (X : CtxBuf F) (W : WoBuf F) : ∀ i, Vec F (slotRect i).shape .f32
  | 0 => k0_pay99 (slotVal X 0) (woVal W)
  | 1 => k0_pay99 (slotVal X 1) (woVal W)
  | 2 => k0_pay99 (slotVal X 2) (woVal W)
  | 3 => k0_pay102 (slotVal X 3) (woVal W)
  | 4 => k0_pay102 (slotVal X 4) (woVal W)

/-- The result, from the context and the output weights. -/
def outBuf (X : CtxBuf F) (W : WoBuf F) : OutBuf F :=
  glue slotRect (proj X W) (k0_pay99 (slotVal X 0) (woVal W) (fun a => ⟨0, by revert a; decide⟩))

theorem outBuf_emb (X : CtxBuf F) (W : WoBuf F) (i : Fin 5) (x : (slotRect i).shape.Idx) :
    outBuf X W ((slotRect i).emb x) = proj X W i x := glue_emb slotRect slot_disjoint _ _ i x

/-- Writing the five slots' rows, in whatever order, over whatever: the result. -/
theorem out_writes (X : CtxBuf F) (W : WoBuf F) (f : OutBuf F) (l : List (Fin 5)) (h : ∀ i, i ∈ l) :
    outM.view.writes (Elt F) f (l.map fun i => ⟨slotRect i, proj X W i⟩) = outBuf X W := by
  funext j
  obtain ⟨i, hi⟩ := slot_cover j
  have h1 := View.read_writes_apply_of_pieces (v := outM.view) (f := f) (outBuf X W) (l.map fun i => ⟨slotRect i, proj X W i⟩)
    (by intro p hp x
        obtain ⟨i', _, rfl⟩ := List.mem_map.mp hp
        exact (outBuf_emb X W i' x).symm) j ⟨_, List.mem_map.mpr ⟨i, h i, rfl⟩, hi⟩
  exact h1

end Cert.KProof
end
-- ==== Proof.Core.lean ====
/-
What each device's program starts from and what it leaves.
-/
module

public import proofs.«01_k».proof.Proof.Contents

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots as the program names them -/

theorem slot_lit0 (c : Dev nD) (q : PosShare TreeShare) (f : CtxBuf F) : slotPts c 0 q f =
    (((Memref.whole cc0_scratch0 : Memref sig .tc .vmem S2048x1024 .bf16).slice (Rect.unit (s := S2048x1024) ![0, 0] S512x1024.size inb_S2048x1024_S512x1024_0_0) (fun _ => rfl)).view.loc (c : Thread nD τ)
      ↦[((Memref.whole cc0_scratch0 : Memref sig .tc .vmem S2048x1024 .bf16).slice (Rect.unit (s := S2048x1024) ![0, 0] S512x1024.size inb_S2048x1024_S512x1024_0_0) (fun _ => rfl)).view.set]{q} f : sProp 𝕄) := rfl

theorem slot_lit1 (c : Dev nD) (q : PosShare TreeShare) (f : CtxBuf F) : slotPts c 1 q f =
    (((Memref.whole cc0_scratch0 : Memref sig .tc .vmem S2048x1024 .bf16).slice (Rect.unit (s := S2048x1024) ![512, 0] S512x1024.size inb_S2048x1024_S512x1024_512_0) (fun _ => rfl)).view.loc (c : Thread nD τ)
      ↦[((Memref.whole cc0_scratch0 : Memref sig .tc .vmem S2048x1024 .bf16).slice (Rect.unit (s := S2048x1024) ![512, 0] S512x1024.size inb_S2048x1024_S512x1024_512_0) (fun _ => rfl)).view.set]{q} f : sProp 𝕄) := rfl

theorem slot_lit2 (c : Dev nD) (q : PosShare TreeShare) (f : CtxBuf F) : slotPts c 2 q f =
    (((Memref.whole cc0_scratch0 : Memref sig .tc .vmem S2048x1024 .bf16).slice (Rect.unit (s := S2048x1024) ![1024, 0] S512x1024.size inb_S2048x1024_S512x1024_1024_0) (fun _ => rfl)).view.loc (c : Thread nD τ)
      ↦[((Memref.whole cc0_scratch0 : Memref sig .tc .vmem S2048x1024 .bf16).slice (Rect.unit (s := S2048x1024) ![1024, 0] S512x1024.size inb_S2048x1024_S512x1024_1024_0) (fun _ => rfl)).view.set]{q} f : sProp 𝕄) := rfl

theorem slot_lit3 (c : Dev nD) (q : PosShare TreeShare) (f : CtxBuf F) : slotPts c 3 q f =
    (((Memref.whole cc0_scratch0 : Memref sig .tc .vmem S2048x1024 .bf16).slice (Rect.unit (s := S2048x1024) ![1536, 0] S256x1024.size inb_S2048x1024_S256x1024_1536_0) (fun _ => rfl)).view.loc (c : Thread nD τ)
      ↦[((Memref.whole cc0_scratch0 : Memref sig .tc .vmem S2048x1024 .bf16).slice (Rect.unit (s := S2048x1024) ![1536, 0] S256x1024.size inb_S2048x1024_S256x1024_1536_0) (fun _ => rfl)).view.set]{q} f : sProp 𝕄) := rfl

theorem slot_lit4 (c : Dev nD) (q : PosShare TreeShare) (f : CtxBuf F) : slotPts c 4 q f =
    (((Memref.whole cc0_scratch0 : Memref sig .tc .vmem S2048x1024 .bf16).slice (Rect.unit (s := S2048x1024) ![1792, 0] S256x1024.size inb_S2048x1024_S256x1024_1792_0) (fun _ => rfl)).view.loc (c : Thread nD τ)
      ↦[((Memref.whole cc0_scratch0 : Memref sig .tc .vmem S2048x1024 .bf16).slice (Rect.unit (s := S2048x1024) ![1792, 0] S256x1024.size inb_S2048x1024_S256x1024_1792_0) (fun _ => rfl)).view.set]{q} f : sProp 𝕄) := rfl

section Lits
variable (X : CtxBuf F)

theorem pay_recv (c : Dev nD) (k : Fin 17) (h : 12 ≤ k.val) (d : Bool) : pay X (c, k) d = slotPts c (slotOf k) fullShare X := by
  unfold pay
  rw [if_neg (by show ¬ k.val = 0; omega), if_neg (by show ¬ k.val = 1; omega), if_neg (by show ¬ k.val < 7; omega),
    if_neg (by show ¬ k.val < 12; omega)]
theorem pay_sendA (c : Dev nD) (k : Fin 17) (h : 2 ≤ k.val) (h' : k.val < 7) (d : Bool) : pay X (c, k) d = slotPts c (slotOf k) qA X := by
  unfold pay
  rw [if_neg (by show ¬ k.val = 0; omega), if_neg (by show ¬ k.val = 1; omega), if_pos h']
theorem pay_sendB (c : Dev nD) (k : Fin 17) (h : 7 ≤ k.val) (h' : k.val < 12) (d : Bool) :
    pay X (c, k) d = slotPts c (slotOf k) (if c = 0 then qB else fullShare.left) X := by
  unfold pay
  rw [if_neg (by show ¬ k.val = 0; omega), if_neg (by show ¬ k.val = 1; omega), if_neg (by show ¬ k.val < 7; omega), if_pos h']

theorem recv_lit0 (c : Dev nD) : pay X (c, 12) false =
    (((Memref.whole cc0_scratch0 : Memref sig .tc .vmem S2048x1024 .bf16).slice (Rect.unit (s := S2048x1024) ![0, 0] S512x1024.size inb_S2048x1024_S512x1024_0_0) (fun _ => rfl)).view.loc (c : Thread nD τ)
      ↦[((Memref.whole cc0_scratch0 : Memref sig .tc .vmem S2048x1024 .bf16).slice (Rect.unit (s := S2048x1024) ![0, 0] S512x1024.size inb_S2048x1024_S512x1024_0_0) (fun _ => rfl)).view.set]{fullShare} X : sProp 𝕄) :=
  (pay_recv X c 12 (by decide) false).trans (slot_lit0 c fullShare X)

theorem recv_lit1 (c : Dev nD) : pay X (c, 13) false =
    (((Memref.whole cc0_scratch0 : Memref sig .tc .vmem S2048x1024 .bf16).slice (Rect.unit (s := S2048x1024) ![512, 0] S512x1024.size inb_S2048x1024_S512x1024_512_0) (fun _ => rfl)).view.loc (c : Thread nD τ)
      ↦[((Memref.whole cc0_scratch0 : Memref sig .tc .vmem S2048x1024 .bf16).slice (Rect.unit (s := S2048x1024) ![512, 0] S512x1024.size inb_S2048x1024_S512x1024_512_0) (fun _ => rfl)).view.set]{fullShare} X : sProp 𝕄) :=
  (pay_recv X c 13 (by decide) false).trans (slot_lit1 c fullShare X)

theorem recv_lit2 (c : Dev nD) : pay X (c, 14) false =
    (((Memref.whole cc0_scratch0 : Memref sig .tc .vmem S2048x1024 .bf16).slice (Rect.unit (s := S2048x1024) ![1024, 0] S512x1024.size inb_S2048x1024_S512x1024_1024_0) (fun _ => rfl)).view.loc (c : Thread nD τ)
      ↦[((Memref.whole cc0_scratch0 : Memref sig .tc .vmem S2048x1024 .bf16).slice (Rect.unit (s := S2048x1024) ![1024, 0] S512x1024.size inb_S2048x1024_S512x1024_1024_0) (fun _ => rfl)).view.set]{fullShare} X : sProp 𝕄) :=
  (pay_recv X c 14 (by decide) false).trans (slot_lit2 c fullShare X)

theorem recv_lit3 (c : Dev nD) : pay X (c, 15) false =
    (((Memref.whole cc0_scratch0 : Memref sig .tc .vmem S2048x1024 .bf16).slice (Rect.unit (s := S2048x1024) ![1536, 0] S256x1024.size inb_S2048x1024_S256x1024_1536_0) (fun _ => rfl)).view.loc (c : Thread nD τ)
      ↦[((Memref.whole cc0_scratch0 : Memref sig .tc .vmem S2048x1024 .bf16).slice (Rect.unit (s := S2048x1024) ![1536, 0] S256x1024.size inb_S2048x1024_S256x1024_1536_0) (fun _ => rfl)).view.set]{fullShare} X : sProp 𝕄) :=
  (pay_recv X c 15 (by decide) false).trans (slot_lit3 c fullShare X)

theorem recv_lit4 (c : Dev nD) : pay X (c, 16) false =
    (((Memref.whole cc0_scratch0 : Memref sig .tc .vmem S2048x1024 .bf16).slice (Rect.unit (s := S2048x1024) ![1792, 0] S256x1024.size inb_S2048x1024_S256x1024_1792_0) (fun _ => rfl)).view.loc (c : Thread nD τ)
      ↦[((Memref.whole cc0_scratch0 : Memref sig .tc .vmem S2048x1024 .bf16).slice (Rect.unit (s := S2048x1024) ![1792, 0] S256x1024.size inb_S2048x1024_S256x1024_1792_0) (fun _ => rfl)).view.set]{fullShare} X : sProp 𝕄) :=
  (pay_recv X c 16 (by decide) false).trans (slot_lit4 c fullShare X)

/-- What device 2's neighbours get from it at the barrier, and so on round the ring. -/
theorem bar21 : pay X (1, 0) true = iprop(slotAny (F := F) 2 0 ∗ slotAny (F := F) 2 1 ∗ slotAny (F := F) 2 2 ∗ slotAny (F := F) 2 3 ∗ emp) := rfl
theorem bar23 : pay X (3, 0) false = iprop(slotAny (F := F) 2 4 ∗ emp) := rfl
theorem bar10 : pay X (0, 0) true = sepList (slotAny (F := F) 1) [0, 1, 2, 3, 4] := rfl
theorem bar30 : pay X (0, 0) false = sepList (slotAny (F := F) 3) [0, 1, 2, 3, 4] := rfl
theorem bar12 : pay X (2, 0) false = iprop(emp) := rfl
theorem bar32 : pay X (2, 0) true = iprop(emp) := rfl
theorem bar01 : pay X (1, 0) false = iprop(emp) := rfl
theorem bar03 : pay X (3, 0) true = iprop(emp) := rfl
theorem exit_pay (c : Dev nD) (d : Bool) : pay X (c, 1) d = iprop(emp) := rfl

theorem slot_halves (c : Dev nD) (i : Fin 5) (q : PosShare TreeShare) : slotPts c i q X = iprop(slotPts c i q.left X ∗ slotPts c i q.right X) := by
  unfold slotPts
  exact BI.equiv_iff.mp ⟨(pointsTo_share (PosShare.mem_left_op_right q)).1, (pointsTo_share (PosShare.mem_left_op_right q)).2⟩

/-- A received slot, as a half to send on and a half to read. -/
theorem recv_split (c : Dev nD) (k : Fin 17) (i : Fin 5) (h : 12 ≤ k.val) (hi : slotOf k = i) :
    pay X (c, k) false ⊢ iprop(slotPts c i fullShare.left X ∗ slotPts c i fullShare.right X) := by
  rw [pay_recv X c k h, hi]; exact Entails.of_eq (slot_halves X c i fullShare)
/-- A slot sent on, come back. -/
theorem fwd_join (c : Dev nD) (hc : c ≠ 0) (k : Fin 17) (i : Fin 5) (h : 7 ≤ k.val) (h' : k.val < 12) (hi : slotOf k = i) :
    iprop(pay X (c, k) false ∗ slotPts c i fullShare.right X) ⊢ slotPts c i fullShare X := by
  rw [pay_sendB X c k h h', hi, if_neg hc]; exact Entails.of_eq (slot_halves X c i fullShare).symm
end Lits

/-! ## What a device's program starts from and leaves -/

/-- The kernel's program at the operands the launch gives it. -/
abbrev bodyAt : Prog (TpuEff nD τ sig (Elt F) Λ₀ .tc) PUnit :=
  cc0__body (F := F) (Memref.whole main_arg0) (Memref.isWhole_whole _) (Memref.whole cc0_stg0_0) (Memref.isWhole_whole _)
    (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scoped0

/-- The device's own cells with a round, and those without. -/
def actList (c : Dev nD) : List (Fin 17) :=
  if c = 0 then [0, 1, 2, 3, 4, 5, 6, 7, 8, 9, 10, 11] else if c = 1 then [0, 1, 7, 8, 9, 10, 12, 13, 14, 15, 16]
  else if c = 2 then [0, 1, 12, 13, 14, 15, 16] else [0, 1, 11, 12, 13, 14, 15, 16]
def idleList (c : Dev nD) : List (Fin 17) :=
  if c = 0 then [12, 13, 14, 15, 16] else if c = 1 then [2, 3, 4, 5, 6, 11]
  else if c = 2 then [2, 3, 4, 5, 6, 7, 8, 9, 10, 11] else [2, 3, 4, 5, 6, 7, 8, 9, 10]
/-- The payments the device makes to its neighbours' barrier and exit cells. -/
def sigToks (c : Dev nD) : List (Key × Bool) := [((prv c, 0), true), ((nxt c, 0), false), ((prv c, 1), true), ((nxt c, 1), false)]
/-- The payments its copies make: on its own send cells, and on the receive cells they land on. -/
def sendToks (c : Dev nD) : List Key :=
  if c = 0 then [(0, 2), (0, 3), (0, 4), (0, 5), (0, 6), (0, 7), (0, 8), (0, 9), (0, 10), (0, 11)]
  else if c = 1 then [(1, 7), (1, 8), (1, 9), (1, 10)] else if c = 3 then [(3, 11)] else []
/-- The receive cells the device waits on. -/
def recvList (c : Dev nD) : List (Fin 17) := if c = 0 then [] else [12, 13, 14, 15, 16]

section Core
variable (X : CtxBuf F) (K : Key → ℕ)

def woPts (c : Dev nD) (W : WoBuf F) : sProp 𝕄 := (woM.view.loc (c : Thread nD τ) ↦[woM.view.set]{fullShare} W : sProp 𝕄)
def outPts (c : Dev nD) (f : OutBuf F) : sProp 𝕄 := (outM.view.loc (c : Thread nD τ) ↦[outM.view.set]{fullShare} f : sProp 𝕄)

/-- What every device starts from. -/
def corePre (c : Dev nD) (W : WoBuf F) : sProp 𝕄 :=
  iprop(known X K ∗ levAts L lv ∗ ow (F := F) c (debts c)
    ∗ sepList (fun p : Key × Bool => tok (F := F) p.1 p.2) (sigToks c)
    ∗ sepList (fun p : Key => tok (F := F) p false) (sendToks c ++ sends c)
    ∗ sepList (fun k : Fin 17 => crd (F := F) (c, k) 2) [0, 1]
    ∗ sepList (fun k : Fin 17 => crd (F := F) (c, k) (amt k)) (recvList c)
    ∗ sepList (fun k : Fin 17 => at0 (F := F) (c, k)) (actList c)
    ∗ ctxAny (F := F) c ∗ woPts c W ∗ ∃ f : OutBuf F, outPts c f)

/-- What it leaves: its rounds are over, nothing is owed, the result is there. -/
def corePost (c : Dev nD) (W : WoBuf F) : sProp 𝕄 :=
  iprop(ow (F := F) c [] ∗ sepList (fun k : Fin 17 => at1 (F := F) (c, k)) (actList c)
    ∗ ctxAny (F := F) c ∗ woPts c W ∗ outPts c (outBuf X W))

/-- The five slots' rows written, in whatever order: the result. -/
theorem out_done (c : Dev nD) (W : WoBuf F) (f : OutBuf F) (l : List (Fin 5)) (h : ∀ i, i ∈ l) :
    (outM.view.loc (c : Thread nD τ) ↦[outM.view.set]{fullShare} outM.view.writes (Elt F) f (l.map fun i => ⟨slotRect i, proj X W i⟩) : sProp 𝕄)
      ⊢ (outM.view.loc (c : Thread nD τ) ↦[outM.view.set]{fullShare} outBuf X W : sProp 𝕄) := by
  rw [out_writes X W f l h]

end Core

end Cert.KProof
end
-- ==== Proof.Attn.lean ====
/-
What device 0 computes: the context, tile by tile and head by head, from the rows of x, the query weights and its keys and values.
-/
module

public import proofs.«01_k».proof.Proof.Core
public import Idealize.ShloMosaic.Lib.VecWindow

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev xM : Memref sig .tc .hbm S2048x1024 .f32 := Memref.whole main_arg0
abbrev wqM : Memref sig .tc .vmem S1024x1024 .f32 := Memref.whole cc0_stg0_0
abbrev keyM : Memref sig .tc .vmem S2048x1024 .f32 := Memref.whole cc0_stg1_0
abbrev valM : Memref sig .tc .vmem S2048x1024 .f32 := Memref.whole cc0_stg2_0
abbrev xbM : Memref sig .tc .vmem S2x512x1024 .f32 := Memref.whole cc0_scratch1
abbrev qtM : Memref sig .tc .vmem S512x1024 .f32 := Memref.whole cc0_scratch2
abbrev mkM : Memref sig .tc .vmem S512x512 .f32 := Memref.whole cc0_scratch3

abbrev XBuf (F : FTy → Type) : Type := (main_arg0 : Ref sig .tc).ty.Contents (Elt F)
abbrev WqBuf (F : FTy → Type) : Type := (cc0_stg0_0 : Ref sig .tc).ty.Contents (Elt F)
abbrev KeyBuf (F : FTy → Type) : Type := (cc0_stg1_0 : Ref sig .tc).ty.Contents (Elt F)
abbrev ValBuf (F : FTy → Type) : Type := (cc0_stg2_0 : Ref sig .tc).ty.Contents (Elt F)
abbrev XbBuf (F : FTy → Type) : Type := (cc0_scratch1 : Ref sig .tc).ty.Contents (Elt F)
abbrev QtBuf (F : FTy → Type) : Type := (cc0_scratch2 : Ref sig .tc).ty.Contents (Elt F)
abbrev MkBuf (F : FTy → Type) : Type := (cc0_scratch3 : Ref sig .tc).ty.Contents (Elt F)

/-! ## The rectangles -/

theorem headInb (t : Fin 4) (h : Fin 8) : ∀ a : Fin 2, (![512 * t.val, 128 * h.val] : Fin 2 → ℕ) a + S512x128.size a ≤ S2048x1024.size a := by
  revert t h; decide
theorem colInb (h : Fin 8) : ∀ a : Fin 2, (![0, 128 * h.val] : Fin 2 → ℕ) a + S512x128.size a ≤ S512x1024.size a := by
  revert h; decide
theorem rowInb (t : Fin 4) : ∀ a : Fin 2, (![512 * t.val, 0] : Fin 2 → ℕ) a + S512x1024.size a ≤ S2048x1024.size a := by
  revert t; decide

/-- Tile `t`'s rows, head `h`'s columns. -/
def headRect (p : Fin 4 × Fin 8) : Rect S2048x1024 := Rect.unit (s := S2048x1024) ![512 * p.1.val, 128 * p.2.val] S512x128.size (headInb p.1 p.2)
/-- Head `h`'s columns of a tile. -/
def colRect (h : Fin 8) : Rect S512x1024 := Rect.unit (s := S512x1024) ![0, 128 * h.val] S512x128.size (colInb h)
/-- Tile `t`'s rows. -/
def rowRect (t : Fin 4) : Rect S2048x1024 := Rect.unit (s := S2048x1024) ![512 * t.val, 0] S512x1024.size (rowInb t)

theorem head_disjoint (p p' : Fin 4 × Fin 8) (h : p ≠ p') : Disjoint (headRect p).set (headRect p').set := by
  refine Finset.disjoint_left.mpr fun j h1 h2 => h ?_
  unfold headRect at h1 h2
  rw [Rect.mem_set_unit] at h1 h2
  have a0 := h1 0; have a1 := h1 1; have b0 := h2 0; have b1 := h2 1
  change 512 * p.1.val ≤ (j 0).val ∧ (j 0).val < 512 * p.1.val + 512 at a0
  change 128 * p.2.val ≤ (j 1).val ∧ (j 1).val < 128 * p.2.val + 128 at a1
  change 512 * p'.1.val ≤ (j 0).val ∧ (j 0).val < 512 * p'.1.val + 512 at b0
  change 128 * p'.2.val ≤ (j 1).val ∧ (j 1).val < 128 * p'.2.val + 128 at b1
  exact Prod.ext (Fin.ext (by omega)) (Fin.ext (by omega))

/-- The elements of tile `t` are those of its eight heads. -/
theorem head_cover (t : Fin 4) (j : S2048x1024.Idx) (h0 : 512 * t.val ≤ (j 0).val) (h0' : (j 0).val < 512 * t.val + 512) :
    ∃ h : Fin 8, j ∈ (headRect (t, h)).set := by
  have h1 : (j 1).val < 1024 := (j 1).isLt
  refine ⟨⟨(j 1).val / 128, by omega⟩, ?_⟩
  unfold headRect
  rw [Rect.mem_set_unit]
  intro a
  fin_cases a
  · exact ⟨h0, h0'⟩
  · constructor
    · show 128 * ((j 1).val / 128) ≤ (j 1).val; omega
    · show (j 1).val < 128 * ((j 1).val / 128) + 128; omega

/-! ## The values -/

section Values
variable (x : XBuf F) (wq : WqBuf F) (k : KeyBuf F) (v : ValBuf F)

/-- Tile `t`'s rows of x, as the buffer they are copied to gives them. -/
def xRows (t : Fin 4) : Vec F S1x512x1024 .f32 := fun i => x ((rowRect t).emb ((Shape.reshapeEquiv squeezes_S1x512x1024_S512x1024.numel_eq).symm i))
def wqVal : Vec F S1024x1024 .f32 :=
  wqM.view.readAt (Elt F) (Rect.unit (s := S1024x1024) ![0, 0] S1024x1024.size inb_S1024x1024_S1024x1024_0_0).toLoadRect wq

/-- The queries of tile `t`. -/
def qTile : Fin 4 → FVec F S512x1024 .f32
  | 0 => k0_pay6 (k0_pay5 (xRows x 0) (wqVal wq))
  | 1 => k0_pay22 (k0_pay21 (xRows x 1) (wqVal wq))
  | 2 => k0_pay45 (xRows x 2) (wqVal wq)
  | 3 => k0_pay78 (xRows x 3) (wqVal wq)
def qHead (t : Fin 4) (h : Fin 8) : Vec F S512x128 .f32 := fun i => qTile x wq t ((colRect h).emb i)

/-- The mask of the diagonal block. -/
def maskVal : FVec F S512x512 .f32 := k0_pay4 k0_pay1 k0_pay2 k0_pay3

/-- The keys and the values of head `h`: rows `0` to `512 n`. -/
theorem keyInb (n o : ℕ) (h : Fin 8) (hn : o + n ≤ 2048) : ∀ a : Fin 2, (![o, 128 * h.val] : Fin 2 → ℕ) a + (![n, 128] : Fin 2 → ℕ) a ≤ S2048x1024.size a := by
  intro a
  have := h.isLt
  fin_cases a
  · exact hn
  · show 128 * h.val + 128 ≤ 1024; omega
def keyPart (n o : ℕ) (h : Fin 8) (hn : o + n ≤ 2048) : Vec F ⟨2, ![n, 128]⟩ .f32 :=
  keyM.view.readAt (Elt F) (Rect.unit (s := S2048x1024) ![o, 128 * h.val] ![n, 128] (keyInb n o h hn)).toLoadRect k
def valPart (n o : ℕ) (h : Fin 8) (hn : o + n ≤ 2048) : Vec F ⟨2, ![n, 128]⟩ .f32 :=
  valM.view.readAt (Elt F) (Rect.unit (s := S2048x1024) ![o, 128 * h.val] ![n, 128] (keyInb n o h hn)).toLoadRect v

/-- Head `h` of tile `t` of the context. -/
def headVal (p : Fin 4 × Fin 8) : Vec F S512x128 .bf16 :=
  match p with
  | (0, h) => k0_pay7 (qHead x wq 0 h) (keyPart k 512 0 h (by decide)) maskVal (valPart v 512 0 h (by decide))
  | (1, h) => k0_pay23 (qHead x wq 1 h) (keyPart k 1024 0 h (by decide)) maskVal (valPart v 512 512 h (by decide)) (valPart v 512 0 h (by decide))
  | (2, h) => k0_pay61 (qHead x wq 2 h) (keyPart k 1536 0 h (by decide)) maskVal (valPart v 512 1024 h (by decide)) (valPart v 1024 0 h (by decide))
  | (3, h) => k0_pay79 (qHead x wq 3 h) (keyPart k 2048 0 h (by decide)) maskVal (valPart v 512 1536 h (by decide)) (valPart v 1536 0 h (by decide))

/-- The context. -/
def ctxBuf : CtxBuf F := glue headRect (headVal x wq k v) (headVal x wq k v (0, 0) (fun a => ⟨0, by revert a; decide⟩))

theorem ctxBuf_emb (p : Fin 4 × Fin 8) (i : (headRect p).shape.Idx) : ctxBuf x wq k v ((headRect p).emb i) = headVal x wq k v p i :=
  glue_emb headRect head_disjoint _ _ p i

end Values

/-! ## Reading back what was written -/

/-- A box of a buffer written whole. -/
theorem read_box {κ : Kind} {sp : Space} {s : Shape} {e : EltTy} (w' : View sig κ sp s e) (f : w'.ty.Contents (Elt F)) (o) (inb) (w : s.Idx → Elt F e)
    (l : List (View.Piece (Elt F) s e)) (r : Rect s) :
    w'.readAt (Elt F) r.toLoadRect (w'.writes (Elt F) f (⟨Rect.unit o s.size inb, w⟩ :: l)) = fun i => w (r.emb i) := by
  funext i
  rw [View.readAt_apply, View.read_writes_full]
  rfl

/-- A slot of the row buffer after a copy into it. -/
theorem read_copied (r : Rect S2x512x1024) (hr : ∀ a, r.stride a = 1) (hq : r.shape.Squeezes S512x1024) (f : XbBuf F) (w : S512x1024.Idx → Elt F .f32) :
    xbM.view.readAt (Elt F) r.toLoadRect (View.write (Elt F) ((xbM.slice r hr).squeeze S512x1024 hq).view f w Finset.univ)
      = fun i => w ((Shape.reshapeEquiv hq.numel_eq).symm i) := by
  funext i
  have h := congrFun (View.read_write_univ (Val := Elt F) (v := ((xbM.slice r hr).squeeze S512x1024 hq).view) f w) ((Shape.reshapeEquiv hq.numel_eq).symm i)
  rw [← h]
  show View.read (Elt F) (xbM.view.slice r) _ i = View.read (Elt F) (xbM.view.slice r) _ (Shape.reshapeEquiv hq.numel_eq ((Shape.reshapeEquiv hq.numel_eq).symm i))
  rw [Equiv.apply_symm_apply]

/-! ## What device 0 holds beside the rest -/

def xPts (f : XBuf F) : sProp 𝕄 := (xM.view.loc ((0 : Dev nD) : Thread nD τ) ↦[xM.view.set]{fullShare} f : sProp 𝕄)
def wqPts (f : WqBuf F) : sProp 𝕄 := (wqM.view.loc ((0 : Dev nD) : Thread nD τ) ↦[wqM.view.set]{fullShare} f : sProp 𝕄)
def keyPts (f : KeyBuf F) : sProp 𝕄 := (keyM.view.loc ((0 : Dev nD) : Thread nD τ) ↦[keyM.view.set]{fullShare} f : sProp 𝕄)
def valPts (f : ValBuf F) : sProp 𝕄 := (valM.view.loc ((0 : Dev nD) : Thread nD τ) ↦[valM.view.set]{fullShare} f : sProp 𝕄)
def qtPts (f : QtBuf F) : sProp 𝕄 := (qtM.view.loc ((0 : Dev nD) : Thread nD τ) ↦[qtM.view.set]{fullShare} f : sProp 𝕄)
def mkPts (f : MkBuf F) : sProp 𝕄 := (mkM.view.loc ((0 : Dev nD) : Thread nD τ) ↦[mkM.view.set]{fullShare} f : sProp 𝕄)
def xb0Pts (f : XbBuf F) : sProp 𝕄 :=
  (((Memref.whole cc0_scratch1 : Memref sig .tc .vmem S2x512x1024 .f32).slice (Rect.unit (s := S2x512x1024) ![0, 0, 0] S1x512x1024.size inb_S2x512x1024_S1x512x1024_0_0_0) (fun _ => rfl)).view.loc ((0 : Dev nD) : Thread nD τ)
    ↦[((Memref.whole cc0_scratch1 : Memref sig .tc .vmem S2x512x1024 .f32).slice (Rect.unit (s := S2x512x1024) ![0, 0, 0] S1x512x1024.size inb_S2x512x1024_S1x512x1024_0_0_0) (fun _ => rfl)).view.set]{fullShare} f : sProp 𝕄)
def xb1Pts (f : XbBuf F) : sProp 𝕄 :=
  (((Memref.whole cc0_scratch1 : Memref sig .tc .vmem S2x512x1024 .f32).slice (Rect.unit (s := S2x512x1024) ![1, 0, 0] S1x512x1024.size inb_S2x512x1024_S1x512x1024_1_0_0) (fun _ => rfl)).view.loc ((0 : Dev nD) : Thread nD τ)
    ↦[((Memref.whole cc0_scratch1 : Memref sig .tc .vmem S2x512x1024 .f32).slice (Rect.unit (s := S2x512x1024) ![1, 0, 0] S1x512x1024.size inb_S2x512x1024_S1x512x1024_1_0_0) (fun _ => rfl)).view.set]{fullShare} f : sProp 𝕄)

/-- The last tile's rows of the context: the last two slots. -/
def lastPts (f : CtxBuf F) : sProp 𝕄 :=
  (((Memref.whole cc0_scratch0 : Memref sig .tc .vmem S2048x1024 .bf16).slice (Rect.unit (s := S2048x1024) ![1536, 0] S512x1024.size inb_S2048x1024_S512x1024_1536_0) (fun _ => rfl)).view.loc ((0 : Dev nD) : Thread nD τ)
    ↦[((Memref.whole cc0_scratch0 : Memref sig .tc .vmem S2048x1024 .bf16).slice (Rect.unit (s := S2048x1024) ![1536, 0] S512x1024.size inb_S2048x1024_S512x1024_1536_0) (fun _ => rfl)).view.set]{fullShare} f : sProp 𝕄)

theorem last_lit (f : CtxBuf F) : lastPts f =
  (((Memref.whole cc0_scratch0 : Memref sig .tc .vmem S2048x1024 .bf16).slice (Rect.unit (s := S2048x1024) ![1536, 0] S512x1024.size inb_S2048x1024_S512x1024_1536_0) (fun _ => rfl)).view.loc ((0 : Dev nD) : Thread nD τ)
    ↦[((Memref.whole cc0_scratch0 : Memref sig .tc .vmem S2048x1024 .bf16).slice (Rect.unit (s := S2048x1024) ![1536, 0] S512x1024.size inb_S2048x1024_S512x1024_1536_0) (fun _ => rfl)).view.set]{fullShare} f : sProp 𝕄) := rfl

theorem last_eq (f : CtxBuf F) : iprop(slotPts 0 3 fullShare f ∗ slotPts 0 4 fullShare f) = lastPts f := by
  have hl : lastPts f = ((((0 : Dev nD) : Thread nD τ).loc cc0_scratch0) ↦[(slotRect 3).set ∪ (slotRect 4).set]{fullShare} f : sProp 𝕄) := by
    unfold lastPts
    have hs : ((Memref.whole cc0_scratch0 : Memref sig .tc .vmem S2048x1024 .bf16).slice (Rect.unit (s := S2048x1024) ![1536, 0] S512x1024.size inb_S2048x1024_S512x1024_1536_0) (fun _ => rfl)).view.set = (slotRect 3).set ∪ (slotRect 4).set := by
      refine (View.set_slice_whole _ _).trans (Finset.ext fun j => ?_)
      rw [Finset.mem_union, mem_slot, mem_slot, rows_mem]
      show 1536 ≤ (j 0).val ∧ (j 0).val < 1536 + 512 ↔ (1536 ≤ (j 0).val ∧ (j 0).val < 1536 + 256) ∨ (1792 ≤ (j 0).val ∧ (j 0).val < 1792 + 256)
      omega
    exact congrArg (fun I => ((((0 : Dev nD) : Thread nD τ).loc cc0_scratch0) ↦[I]{fullShare} f : sProp 𝕄)) hs
  rw [hl, slotPts_eq, slotPts_eq]
  exact (BI.equiv_iff.mp ⟨(pointsTo_union (slot_disjoint 3 4 (by decide))).1, (pointsTo_union (slot_disjoint 3 4 (by decide))).2⟩).symm

/-- The context buffer, as tiles to be written. -/
theorem ctx_tiles : ctxAny (F := F) 0 ⊢ iprop(∃ f : CtxBuf F, slotPts 0 0 fullShare f ∗ slotPts 0 1 fullShare f ∗ slotPts 0 2 fullShare f ∗ lastPts f) := by
  unfold ctxAny
  have e := fun f : CtxBuf F => ctx_slots 0 f
  simp only [sepList] at e
  simp only [← last_eq]
  iintro ⟨%f, H⟩
  ihave H := (Entails.of_eq (e f)) $$ H
  icases H with ⟨H0, H1, H2, H3, H4, -⟩
  iexists f
  isplitl [H0]; · iexact H0
  isplitl [H1]; · iexact H1
  isplitl [H2]; · iexact H2
  isplitl [H3]; · iexact H3
  iexact H4

section Tiles
variable (x : XBuf F) (wq : WqBuf F) (k : KeyBuf F) (v : ValBuf F)

/-- The eight heads of a tile, the last one written first in the list. -/
def tilePieces (t : Fin 4) : List (View.Piece (Elt F) S2048x1024 .bf16) :=
  [⟨headRect (t, 7), headVal x wq k v (t, 7)⟩, ⟨headRect (t, 6), headVal x wq k v (t, 6)⟩, ⟨headRect (t, 5), headVal x wq k v (t, 5)⟩,
    ⟨headRect (t, 4), headVal x wq k v (t, 4)⟩, ⟨headRect (t, 3), headVal x wq k v (t, 3)⟩, ⟨headRect (t, 2), headVal x wq k v (t, 2)⟩,
    ⟨headRect (t, 1), headVal x wq k v (t, 1)⟩, ⟨headRect (t, 0), headVal x wq k v (t, 0)⟩]

theorem tilePieces_eq (t : Fin 4) : tilePieces x wq k v t
    = ([7, 6, 5, 4, 3, 2, 1, 0] : List (Fin 8)).map fun h => ⟨headRect (t, h), headVal x wq k v (t, h)⟩ := rfl

theorem tile_agree (t : Fin 4) (f : CtxBuf F) (j : S2048x1024.Idx) (h0 : 512 * t.val ≤ (j 0).val) (h0' : (j 0).val < 512 * t.val + 512) :
    ctxM.view.writes (Elt F) f (tilePieces x wq k v t) j = ctxBuf x wq k v j := by
  rw [tilePieces_eq]
  obtain ⟨h, hi⟩ := head_cover t j h0 h0'
  have hm : ∀ h : Fin 8, h ∈ ([7, 6, 5, 4, 3, 2, 1, 0] : List (Fin 8)) := by decide
  generalize hX : ctxBuf x wq k v = X
  have hv : ∀ (h : Fin 8) y, X ((headRect (t, h)).emb y) = headVal x wq k v (t, h) y := fun h y => by rw [← hX]; exact ctxBuf_emb x wq k v (t, h) y
  generalize headVal x wq k v = w at hv ⊢
  have h1 := View.read_writes_apply_of_pieces (v := ctxM.view) (f := f) X (([7, 6, 5, 4, 3, 2, 1, 0] : List (Fin 8)).map fun h => ⟨headRect (t, h), w (t, h)⟩)
    (by intro p hp y
        obtain ⟨h', _, rfl⟩ := List.mem_map.mp hp
        exact (hv h' y).symm) j ⟨_, List.mem_map.mpr ⟨h, hm h, rfl⟩, hi⟩
  exact h1

/-- A slot that is a whole tile, its heads written. -/
theorem slot_done (i : Fin 5) (t : Fin 4) (h : slotRow i = 512 * t.val) (h' : slotLen i = 512) (f f' : CtxBuf F)
    (e : f' = ctxM.view.writes (Elt F) f (tilePieces x wq k v t)) :
    slotPts 0 i fullShare f' ⊢ slotPts 0 i fullShare (ctxBuf x wq k v) := by
  rw [slotPts_eq, slotPts_eq, e]
  refine Entails.of_eq (pointsTo_congr fun j hj => ?_)
  rw [mem_slot, h, h'] at hj
  exact tile_agree x wq k v t f j hj.1 hj.2

theorem last_done (f f' : CtxBuf F) (e : f' = ctxM.view.writes (Elt F) f (tilePieces x wq k v 3)) :
    lastPts f' ⊢ iprop(slotPts 0 3 fullShare (ctxBuf x wq k v) ∗ slotPts 0 4 fullShare (ctxBuf x wq k v)) := by
  rw [← last_eq, e]
  refine Entails.of_eq (congrArg₂ (fun A B : sProp 𝕄 => iprop(A ∗ B)) ?_ ?_)
  · rw [slotPts_eq, slotPts_eq]
    refine pointsTo_congr fun j hj => ?_
    rw [mem_slot] at hj
    exact tile_agree x wq k v 3 f j hj.1 (lt_of_lt_of_le hj.2 (by decide))
  · rw [slotPts_eq, slotPts_eq]
    refine pointsTo_congr fun j hj => ?_
    rw [mem_slot] at hj
    exact tile_agree x wq k v 3 f j (le_trans (by decide) hj.1) hj.2

end Tiles

/-! ## The pieces, as the program's stores list them -/

section Pieces
variable (x : XBuf F) (wq : WqBuf F) (k : KeyBuf F) (v : ValBuf F)

theorem piece_step (f f' : CtxBuf F) (r : Rect S2048x1024) (w w' : r.shape.Idx → Elt F .bf16) (l) (hf : f' = ctxM.view.writes (Elt F) f l) (hw : w = w') :
    View.write (Elt F) ((Memref.whole cc0_scratch0 : Memref sig .tc .vmem S2048x1024 .bf16).access r) f' w Finset.univ
      = ctxM.view.writes (Elt F) f (⟨r, w'⟩ :: l) := by
  subst hf hw; rfl

/-- Head `h`'s columns of the queries' tile, read back after the tile was stored. -/
theorem q_read (t : Fin 4) (h : Fin 8) (f : QtBuf F) (w : FVec F S512x1024 .f32) (l) (hw : w = qTile x wq t) :
    qtM.view.readAt (Elt F) (colRect h).toLoadRect (qtM.view.writes (Elt F) f
      (⟨Rect.unit (s := S512x1024) ![0, 0] S512x1024.size inb_S512x1024_S512x1024_0_0, w⟩ :: l)) = qHead x wq t h := by
  subst hw; exact read_box _ _ _ _ _ _ _

theorem mask_read (f : MkBuf F) (l) :
    mkM.view.readAt (Elt F) (Rect.unit (s := S512x512) ![0, 0] S512x512.size inb_S512x512_S512x512_0_0).toLoadRect (mkM.view.writes (Elt F) f
      (⟨Rect.unit (s := S512x512) ![0, 0] S512x512.size inb_S512x512_S512x512_0_0, maskVal⟩ :: l)) = (maskVal : FVec F S512x512 .f32) :=
  View.readAt_writes_full _ _ _ _ _ _

theorem x_read0 (t : Fin 4) (f : XbBuf F) :
    xbM.view.readAt (Elt F) (Rect.unit (s := S2x512x1024) ![0, 0, 0] S1x512x1024.size inb_S2x512x1024_S1x512x1024_0_0_0).toLoadRect
      (View.write (Elt F) ((xbM.slice (Rect.unit (s := S2x512x1024) ![0, 0, 0] S1x512x1024.size inb_S2x512x1024_S1x512x1024_0_0_0) (fun _ => rfl)).squeeze S512x1024
        squeezes_S1x512x1024_S512x1024).view f
        (ReadAs.same.apply (View.read (Elt F) ((Memref.whole main_arg0 : Memref sig .tc .hbm S2048x1024 .f32).slice (rowRect t) (fun _ => rfl)).view x)) Finset.univ)
      = xRows x t := read_copied _ _ _ _ _
theorem x_read1 (t : Fin 4) (f : XbBuf F) :
    xbM.view.readAt (Elt F) (Rect.unit (s := S2x512x1024) ![1, 0, 0] S1x512x1024.size inb_S2x512x1024_S1x512x1024_1_0_0).toLoadRect
      (View.write (Elt F) ((xbM.slice (Rect.unit (s := S2x512x1024) ![1, 0, 0] S1x512x1024.size inb_S2x512x1024_S1x512x1024_1_0_0) (fun _ => rfl)).squeeze S512x1024
        squeezes_S1x512x1024_S512x1024).view f
        (ReadAs.same.apply (View.read (Elt F) ((Memref.whole main_arg0 : Memref sig .tc .hbm S2048x1024 .f32).slice (rowRect t) (fun _ => rfl)).view x)) Finset.univ)
      = xRows x t := read_copied _ _ _ _ _

theorem head0 (h : Fin 8) (a b c d) (ha : a = qHead x wq 0 h) (hb : b = keyPart k 512 0 h (by decide)) (hc : c = maskVal)
    (hd : d = valPart v 512 0 h (by decide)) : k0_pay7 a b c d = headVal x wq k v (0, h) := by subst ha hb hc hd; rfl
theorem head1 (h : Fin 8) (a b c d e) (ha : a = qHead x wq 1 h) (hb : b = keyPart k 1024 0 h (by decide)) (hc : c = maskVal)
    (hd : d = valPart v 512 512 h (by decide)) (he : e = valPart v 512 0 h (by decide)) : k0_pay23 a b c d e = headVal x wq k v (1, h) := by
  subst ha hb hc hd he; rfl
theorem head2 (h : Fin 8) (a b c d e) (ha : a = qHead x wq 2 h) (hb : b = keyPart k 1536 0 h (by decide)) (hc : c = maskVal)
    (hd : d = valPart v 512 1024 h (by decide)) (he : e = valPart v 1024 0 h (by decide)) : k0_pay61 a b c d e = headVal x wq k v (2, h) := by
  subst ha hb hc hd he; rfl
theorem head3 (h : Fin 8) (a b c d e) (ha : a = qHead x wq 3 h) (hb : b = keyPart k 2048 0 h (by decide)) (hc : c = maskVal)
    (hd : d = valPart v 512 1536 h (by decide)) (he : e = valPart v 1536 0 h (by decide)) : k0_pay79 a b c d e = headVal x wq k v (3, h) := by
  subst ha hb hc hd he; rfl

end Pieces

/-- A slot of device 0: a share for each of its two copies and one to read. -/
theorem slot_thirds (X : CtxBuf F) (i : Fin 5) : slotPts 0 i fullShare X = iprop(slotPts 0 i qA X ∗ slotPts 0 i qB X ∗ slotPts 0 i qC X) := by
  rw [slot_halves X 0 i fullShare, slot_halves X 0 i fullShare.right]; rfl

theorem ow_open (c : Dev nD) (l : List Key) : ow (F := F) c l ⊢ iprop(∃ W, owes (c : Thread nD τ) (owe l) W) := Entails.of_eq rfl
theorem ow_close (c : Dev nD) (l : List Key) (W) : (owes (c : Thread nD τ) (owe l) W : sProp 𝕄) ⊢ ow (F := F) c l := by
  unfold ow; iintro H; iexists W; iexact H

end Cert.KProof
end
-- ==== Proof.Device0.lean ====
/-
Device 0: it computes the context and sends it to its two neighbours.
-/
module

public import proofs.«01_k».proof.Proof.Attn

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Device0
variable (K : Key → ℕ)

/-- What device 0 has beside the rest: the rows of x, the query weights, its keys and values, its scratch. -/
def extra (x : XBuf F) (wq : WqBuf F) (k : KeyBuf F) (v : ValBuf F) : sProp 𝕄 :=
  iprop(xPts x ∗ wqPts wq ∗ keyPts k ∗ valPts v ∗ (∃ f : XbBuf F, xb0Pts f) ∗ (∃ f : XbBuf F, xb1Pts f) ∗ (∃ f : QtBuf F, qtPts f) ∗ (∃ f : MkBuf F, mkPts f)
    ∗ (semVal (((0 : Dev nD) : Thread nD τ), .dma ⟨5, by decide⟩) 0 : sProp 𝕄) ∗ (semVal (((0 : Dev nD) : Thread nD τ), .dma ⟨6, by decide⟩) 0 : sProp 𝕄))

set_option maxHeartbeats 6400000 in
/-- Device 0: it computes the context tile by tile, sends each slot to its two neighbours, and projects. -/
theorem body0 (x : XBuf F) (wq : WqBuf F) (k : KeyBuf F) (v : ValBuf F) (X : CtxBuf F) (hX : X = ctxBuf x wq k v) (W : WoBuf F) (Q : PUnit → sProp 𝕄) :
    iprop(corePre X K 0 W ∗ extra x wq k v ∗ (corePost X 0 W ∗ extra x wq k v -∗ Q ⟨⟩))
    ⊢ wp frame (wpE (defs₀ (F := F)) 𝒱₀ (0 : Dev nD) none) Set.univ (bodyAt (F := F)) Q := by
  have hc1 : (k0_cond1 (0 : Dev nD) = 1#1) := by decide
  have hc2 : ¬ (k0_cond2 (0 : Dev nD) = 1#1) := by decide
  have hc3 : ¬ (k0_cond3 (0 : Dev nD) = 1#1) := by decide
  have e1 : sigToks 0 = [((3, 0), true), ((1, 0), false), ((3, 1), true), ((1, 1), false)] := by decide
  have e2 : sendToks 0 ++ sends 0 = [(0, 2), (0, 3), (0, 4), (0, 5), (0, 6), (0, 7), (0, 8), (0, 9), (0, 10), (0, 11),
    (1, 12), (3, 12), (1, 13), (3, 13), (1, 14), (3, 14), (1, 15), (1, 16), (3, 16), (3, 15)] := by decide
  have e3 : recvList 0 = [] := by decide
  have e4 : actList 0 = [0, 1, 2, 3, 4, 5, 6, 7, 8, 9, 10, 11] := by decide
  have e5 : debts 0 = [(3, 0), (1, 0), (1, 12), (3, 12), (1, 13), (3, 13), (1, 14), (3, 14), (1, 15), (1, 16), (3, 16), (3, 15), (3, 1), (1, 1)] := by decide
  have eb := ctx_back (0 : Dev nD) X
  have hw5 : ∀ l, levAts L lv ⊢ (MayWait (0 : Dev nD) (.dma ⟨5, by decide⟩) () (owe l) : sProp 𝕄) := fun l => mayWait_none _ _ (by decide) l
  have hw6 : ∀ l, levAts L lv ⊢ (MayWait (0 : Dev nD) (.dma ⟨6, by decide⟩) () (owe l) : sProp 𝕄) := fun l => mayWait_none _ _ (by decide) l
  have eg := ctx_tiles (F := F)
  unfold corePre corePost extra
  rw [e1, e2, e3, e4, e5]
  have p10 := Entails.of_eq (bar10 X)
  have p30 := Entails.of_eq (bar30 X)
  simp only [sepList] at eb p10 p30 ⊢
  iintro ⟨⟨#Hk, #Hlev, HO, ⟨HtbP, HtbN, HteP, HteN, -⟩, ⟨Ht2, Ht3, Ht4, Ht5, Ht6, Ht7, Ht8, Ht9, Ht10, Ht11, Hu2, Hu7, Hu3, Hu8, Hu4, Hu9, Hu5, Hu6, Hu11, Hu10, -⟩, ⟨Hcb, Hce, -⟩, -,
    ⟨Hab, Hae, Hr2, Hr3, Hr4, Hr5, Hr6, Hr7, Hr8, Hr9, Hr10, Hr11, -⟩, Hctx, Hwo, ⟨%f0, Hout⟩⟩,
    ⟨Hx, Hwq, Hkey, Hval, ⟨%xa, Hxa⟩, ⟨%xb, Hxb⟩, ⟨%qt, Hqt⟩, ⟨%mk, Hmk⟩, Hv5, Hv6⟩, HQ⟩
  ihave Hctx := eg $$ Hctx
  icases Hctx with ⟨%g, Hs0, Hs1, Hs2, Hs3⟩
  ihave Hs0 := (Entails.of_eq (slot_lit0 0 fullShare g)) $$ Hs0
  ihave Hs1 := (Entails.of_eq (slot_lit1 0 fullShare g)) $$ Hs1
  ihave Hs2 := (Entails.of_eq (slot_lit2 0 fullShare g)) $$ Hs2
  unfold lastPts woPts outPts xPts wqPts keyPts valPts xb0Pts xb1Pts qtPts mkPts
  sl_exec
  iapply (pay_signal X K 0 3 _ (by decide) 0 _ rfl true (by decide) rfl _) $$ Hk HO HtbP []
  · rw [bar03]; iempintro
  iintro HO
  sl_exec
  iapply (pay_signal X K 0 1 _ (by decide) 0 _ rfl false (by decide) rfl _) $$ Hk HO HtbN []
  · rw [bar01]; iempintro
  iintro HO
  sl_exec
  iapply (wait_both X K 0 0 _ rfl (by decide) rfl [(1, 12), (3, 12), (1, 13), (3, 13), (1, 14), (3, 14), (1, 15), (1, 16), (3, 16), (3, 15), (3, 1), (1, 1)] (by decide)) $$ Hk Hlev Hcb HO Hab
  iintro ⟨HO, Hab, Hp, Hq⟩
  ihave Hp := p10 $$ Hp
  ihave Hq := p30 $$ Hq
  icases Hp with ⟨Hd2, Hd3, Hd4, Hd5, Hd6, -⟩
  icases Hq with ⟨Hd7, Hd8, Hd9, Hd10, Hd11, -⟩
  ihave HO := (ow_open 0 [(1, 12), (3, 12), (1, 13), (3, 13), (1, 14), (3, 14), (1, 15), (1, 16), (3, 16), (3, 15), (3, 1), (1, 1)]) $$ HO
  icases HO with ⟨%W2, HO⟩
  sl_exec
  ihave HO := (ow_close 0 [(1, 12), (3, 12), (1, 13), (3, 13), (1, 14), (3, 14), (1, 15), (1, 16), (3, 16), (3, 15), (3, 1), (1, 1)] _) $$ HO
  ihave Hs0 : iprop(slotPts 0 0 fullShare X) $$ [Hs0]
  · subst hX
    ihave Hs0 := (Entails.of_eq (slot_lit0 0 fullShare _).symm) $$ Hs0
    iapply (slot_done x wq k v 0 0 rfl rfl g _ ?_) $$ Hs0
    have hT : k0_pay6 (body0.sl.r x wq xa) = qTile x wq 0 := by delta body0.sl.r body0.sl.v96; exact congrArg (fun z => k0_pay6 (k0_pay5 z (wqVal wq))) (x_read0 x 0 _)
    have hM : body0.sl.v111 (F := F) = maskVal := by delta body0.sl.v111 body0.sl.Hmk_1; exact mask_read (F := F) _ _
    refine piece_step g _ _ _ _ _ (piece_step g _ _ _ _ _ (piece_step g _ _ _ _ _ (piece_step g _ _ _ _ _ (piece_step g _ _ _ _ _ (piece_step g _ _ _ _ _ (piece_step g _ _ _ _ _ (piece_step g _ _ _ _ _ (rfl) ?_) ?_) ?_) ?_) ?_) ?_) ?_) ?_
    · exact head0 x wq k v 0 _ _ _ _ (by delta body0.sl.v104 body0.sl.Hqt_1; exact q_read x wq 0 0 _ _ _ hT) rfl hM rfl
    · exact head0 x wq k v 1 _ _ _ _ (by delta body0.sl.v124 body0.sl.Hqt_1; exact q_read x wq 0 1 _ _ _ hT) rfl hM rfl
    · exact head0 x wq k v 2 _ _ _ _ (by delta body0.sl.v144 body0.sl.Hqt_1; exact q_read x wq 0 2 _ _ _ hT) rfl hM rfl
    · exact head0 x wq k v 3 _ _ _ _ (by delta body0.sl.v164 body0.sl.Hqt_1; exact q_read x wq 0 3 _ _ _ hT) rfl hM rfl
    · exact head0 x wq k v 4 _ _ _ _ (by delta body0.sl.v184 body0.sl.Hqt_1; exact q_read x wq 0 4 _ _ _ hT) rfl hM rfl
    · exact head0 x wq k v 5 _ _ _ _ (by delta body0.sl.v204 body0.sl.Hqt_1; exact q_read x wq 0 5 _ _ _ hT) rfl hM rfl
    · exact head0 x wq k v 6 _ _ _ _ (by delta body0.sl.v224 body0.sl.Hqt_1; exact q_read x wq 0 6 _ _ _ hT) rfl hM rfl
    · exact head0 x wq k v 7 _ _ _ _ (by delta body0.sl.v244 body0.sl.Hqt_1; exact q_read x wq 0 7 _ _ _ hT) rfl hM rfl
  ihave Hs0 := (Entails.of_eq (slot_thirds X 0)) $$ Hs0
  icases Hs0 with ⟨Ha0, Hb0, Hs0⟩
  ihave Hs0 := (Entails.of_eq (slot_lit0 0 qC X)) $$ Hs0
  iapply (send_slot X K 0 1 _ (Fin.ext (show k0_dev3 = 1 by decide)) 0 2 12 (by decide) (by decide) qA (by decide) (by decide) rfl rfl
    (pay_sendA X 0 2 (by decide) (by decide) false) (pay_recv X 1 12 (by decide) false) [(3, 12), (1, 13), (3, 13), (1, 14), (3, 14), (1, 15), (1, 16), (3, 16), (3, 15), (3, 1), (1, 1)]) $$ Hk HO Ht2 Hu2 Ha0 Hd2
  iintro ⟨HO, Hf2⟩
  sl_exec
  iapply (send_slot X K 0 3 _ (Fin.ext (show k0_dev4 = 3 by decide)) 0 7 12 (by decide) (by decide) qB (by decide) (by decide) rfl rfl
    (pay_sendB X 0 7 (by decide) (by decide) false) (pay_recv X 3 12 (by decide) false) [(1, 13), (3, 13), (1, 14), (3, 14), (1, 15), (1, 16), (3, 16), (3, 15), (3, 1), (1, 1)]) $$ Hk HO Ht7 Hu7 Hb0 Hd7
  iintro ⟨HO, Hf7⟩
  ihave HO := (ow_open 0 [(1, 13), (3, 13), (1, 14), (3, 14), (1, 15), (1, 16), (3, 16), (3, 15), (3, 1), (1, 1)]) $$ HO
  icases HO with ⟨%W4, HO⟩
  sl_exec
  ihave HO := (ow_close 0 [(1, 13), (3, 13), (1, 14), (3, 14), (1, 15), (1, 16), (3, 16), (3, 15), (3, 1), (1, 1)] _) $$ HO
  ihave Hs1 : iprop(slotPts 0 1 fullShare X) $$ [Hs1]
  · subst hX
    ihave Hs1 := (Entails.of_eq (slot_lit1 0 fullShare _).symm) $$ Hs1
    iapply (slot_done x wq k v 1 1 rfl rfl g _ ?_) $$ Hs1
    have hT : k0_pay22 (body0.sl.r_8 x wq xb) = qTile x wq 1 := by delta body0.sl.r_8 body0.sl.v290; exact congrArg (fun z => k0_pay22 (k0_pay21 z (wqVal wq))) (x_read1 x 1 _)
    have hM : body0.sl.v306 (F := F) = maskVal := by delta body0.sl.v306 body0.sl.Hmk_1; exact mask_read (F := F) _ _
    refine piece_step g _ _ _ _ _ (piece_step g _ _ _ _ _ (piece_step g _ _ _ _ _ (piece_step g _ _ _ _ _ (piece_step g _ _ _ _ _ (piece_step g _ _ _ _ _ (piece_step g _ _ _ _ _ (piece_step g _ _ _ _ _ (rfl) ?_) ?_) ?_) ?_) ?_) ?_) ?_) ?_
    · exact head1 x wq k v 0 _ _ _ _ _ (by delta body0.sl.v298 body0.sl.Hqt_2; exact q_read x wq 1 0 _ _ _ hT) rfl hM rfl rfl
    · exact head1 x wq k v 1 _ _ _ _ _ (by delta body0.sl.v327 body0.sl.Hqt_2; exact q_read x wq 1 1 _ _ _ hT) rfl hM rfl rfl
    · exact head1 x wq k v 2 _ _ _ _ _ (by delta body0.sl.v356 body0.sl.Hqt_2; exact q_read x wq 1 2 _ _ _ hT) rfl hM rfl rfl
    · exact head1 x wq k v 3 _ _ _ _ _ (by delta body0.sl.v385 body0.sl.Hqt_2; exact q_read x wq 1 3 _ _ _ hT) rfl hM rfl rfl
    · exact head1 x wq k v 4 _ _ _ _ _ (by delta body0.sl.v414 body0.sl.Hqt_2; exact q_read x wq 1 4 _ _ _ hT) rfl hM rfl rfl
    · exact head1 x wq k v 5 _ _ _ _ _ (by delta body0.sl.v443 body0.sl.Hqt_2; exact q_read x wq 1 5 _ _ _ hT) rfl hM rfl rfl
    · exact head1 x wq k v 6 _ _ _ _ _ (by delta body0.sl.v472 body0.sl.Hqt_2; exact q_read x wq 1 6 _ _ _ hT) rfl hM rfl rfl
    · exact head1 x wq k v 7 _ _ _ _ _ (by delta body0.sl.v501 body0.sl.Hqt_2; exact q_read x wq 1 7 _ _ _ hT) rfl hM rfl rfl
  ihave Hs1 := (Entails.of_eq (slot_thirds X 1)) $$ Hs1
  icases Hs1 with ⟨Ha1, Hb1, Hs1⟩
  ihave Hs1 := (Entails.of_eq (slot_lit1 0 qC X)) $$ Hs1
  iapply (send_slot X K 0 1 _ (Fin.ext (show k0_dev5 = 1 by decide)) 1 3 13 (by decide) (by decide) qA (by decide) (by decide) rfl rfl
    (pay_sendA X 0 3 (by decide) (by decide) false) (pay_recv X 1 13 (by decide) false) [(3, 13), (1, 14), (3, 14), (1, 15), (1, 16), (3, 16), (3, 15), (3, 1), (1, 1)]) $$ Hk HO Ht3 Hu3 Ha1 Hd3
  iintro ⟨HO, Hf3⟩
  sl_exec
  iapply (send_slot X K 0 3 _ (Fin.ext (show k0_dev6 = 3 by decide)) 1 8 13 (by decide) (by decide) qB (by decide) (by decide) rfl rfl
    (pay_sendB X 0 8 (by decide) (by decide) false) (pay_recv X 3 13 (by decide) false) [(1, 14), (3, 14), (1, 15), (1, 16), (3, 16), (3, 15), (3, 1), (1, 1)]) $$ Hk HO Ht8 Hu8 Hb1 Hd8
  iintro ⟨HO, Hf8⟩
  ihave HO := (ow_open 0 [(1, 14), (3, 14), (1, 15), (1, 16), (3, 16), (3, 15), (3, 1), (1, 1)]) $$ HO
  icases HO with ⟨%W6, HO⟩
  sl_exec
  ihave HO := (ow_close 0 [(1, 14), (3, 14), (1, 15), (1, 16), (3, 16), (3, 15), (3, 1), (1, 1)] _) $$ HO
  ihave Hs2 : iprop(slotPts 0 2 fullShare X) $$ [Hs2]
  · subst hX
    ihave Hs2 := (Entails.of_eq (slot_lit2 0 fullShare _).symm) $$ Hs2
    iapply (slot_done x wq k v 2 2 rfl rfl g _ ?_) $$ Hs2
    have hT : k0_pay45 (body0.sl.v556 x xa) (wqVal wq) = qTile x wq 2 := by delta body0.sl.v556; exact congrArg (fun z => k0_pay45 z (wqVal wq)) (x_read0 x 2 _)
    have hM : body0.sl.v572 (F := F) = maskVal := by delta body0.sl.v572 body0.sl.Hmk_1; exact mask_read (F := F) _ _
    refine piece_step g _ _ _ _ _ (piece_step g _ _ _ _ _ (piece_step g _ _ _ _ _ (piece_step g _ _ _ _ _ (piece_step g _ _ _ _ _ (piece_step g _ _ _ _ _ (piece_step g _ _ _ _ _ (piece_step g _ _ _ _ _ (rfl) ?_) ?_) ?_) ?_) ?_) ?_) ?_) ?_
    · exact head2 x wq k v 0 _ _ _ _ _ (by delta body0.sl.v564 body0.sl.Hqt_3; exact q_read x wq 2 0 _ _ _ hT) rfl hM rfl rfl
    · exact head2 x wq k v 1 _ _ _ _ _ (by delta body0.sl.v593 body0.sl.Hqt_3; exact q_read x wq 2 1 _ _ _ hT) rfl hM rfl rfl
    · exact head2 x wq k v 2 _ _ _ _ _ (by delta body0.sl.v622 body0.sl.Hqt_3; exact q_read x wq 2 2 _ _ _ hT) rfl hM rfl rfl
    · exact head2 x wq k v 3 _ _ _ _ _ (by delta body0.sl.v651 body0.sl.Hqt_3; exact q_read x wq 2 3 _ _ _ hT) rfl hM rfl rfl
    · exact head2 x wq k v 4 _ _ _ _ _ (by delta body0.sl.v680 body0.sl.Hqt_3; exact q_read x wq 2 4 _ _ _ hT) rfl hM rfl rfl
    · exact head2 x wq k v 5 _ _ _ _ _ (by delta body0.sl.v709 body0.sl.Hqt_3; exact q_read x wq 2 5 _ _ _ hT) rfl hM rfl rfl
    · exact head2 x wq k v 6 _ _ _ _ _ (by delta body0.sl.v738 body0.sl.Hqt_3; exact q_read x wq 2 6 _ _ _ hT) rfl hM rfl rfl
    · exact head2 x wq k v 7 _ _ _ _ _ (by delta body0.sl.v767 body0.sl.Hqt_3; exact q_read x wq 2 7 _ _ _ hT) rfl hM rfl rfl
  ihave Hs2 := (Entails.of_eq (slot_thirds X 2)) $$ Hs2
  icases Hs2 with ⟨Ha2, Hb2, Hs2⟩
  ihave Hs2 := (Entails.of_eq (slot_lit2 0 qC X)) $$ Hs2
  iapply (send_slot X K 0 1 _ (Fin.ext (show k0_dev7 = 1 by decide)) 2 4 14 (by decide) (by decide) qA (by decide) (by decide) rfl rfl
    (pay_sendA X 0 4 (by decide) (by decide) false) (pay_recv X 1 14 (by decide) false) [(3, 14), (1, 15), (1, 16), (3, 16), (3, 15), (3, 1), (1, 1)]) $$ Hk HO Ht4 Hu4 Ha2 Hd4
  iintro ⟨HO, Hf4⟩
  sl_exec
  iapply (send_slot X K 0 3 _ (Fin.ext (show k0_dev8 = 3 by decide)) 2 9 14 (by decide) (by decide) qB (by decide) (by decide) rfl rfl
    (pay_sendB X 0 9 (by decide) (by decide) false) (pay_recv X 3 14 (by decide) false) [(1, 15), (1, 16), (3, 16), (3, 15), (3, 1), (1, 1)]) $$ Hk HO Ht9 Hu9 Hb2 Hd9
  iintro ⟨HO, Hf9⟩
  ihave HO := (ow_open 0 [(1, 15), (1, 16), (3, 16), (3, 15), (3, 1), (1, 1)]) $$ HO
  icases HO with ⟨%W8, HO⟩
  sl_exec
  ihave HO := (ow_close 0 [(1, 15), (1, 16), (3, 16), (3, 15), (3, 1), (1, 1)] _) $$ HO
  ihave Hs3 : iprop(slotPts 0 3 fullShare X ∗ slotPts 0 4 fullShare X) $$ [Hs3]
  · subst hX
    ihave Hs3 := (Entails.of_eq (last_lit _).symm) $$ Hs3
    iapply (last_done x wq k v g _ ?_) $$ Hs3
    have hT : k0_pay78 (body0.sl.v x xb) (wqVal wq) = qTile x wq 3 := by delta body0.sl.v; exact congrArg (fun z => k0_pay78 z (wqVal wq)) (x_read1 x 3 _)
    have hM : body0.sl.v833 (F := F) = maskVal := by delta body0.sl.v833 body0.sl.Hmk_1; exact mask_read (F := F) _ _
    refine piece_step g _ _ _ _ _ (piece_step g _ _ _ _ _ (piece_step g _ _ _ _ _ (piece_step g _ _ _ _ _ (piece_step g _ _ _ _ _ (piece_step g _ _ _ _ _ (piece_step g _ _ _ _ _ (piece_step g _ _ _ _ _ (rfl) ?_) ?_) ?_) ?_) ?_) ?_) ?_) ?_
    · exact head3 x wq k v 0 _ _ _ _ _ (by delta body0.sl.v825 body0.sl.Hqt_4; exact q_read x wq 3 0 _ _ _ hT) rfl hM rfl rfl
    · exact head3 x wq k v 1 _ _ _ _ _ (by delta body0.sl.v854 body0.sl.Hqt_4; exact q_read x wq 3 1 _ _ _ hT) rfl hM rfl rfl
    · exact head3 x wq k v 2 _ _ _ _ _ (by delta body0.sl.v883 body0.sl.Hqt_4; exact q_read x wq 3 2 _ _ _ hT) rfl hM rfl rfl
    · exact head3 x wq k v 3 _ _ _ _ _ (by delta body0.sl.v912 body0.sl.Hqt_4; exact q_read x wq 3 3 _ _ _ hT) rfl hM rfl rfl
    · exact head3 x wq k v 4 _ _ _ _ _ (by delta body0.sl.v941 body0.sl.Hqt_4; exact q_read x wq 3 4 _ _ _ hT) rfl hM rfl rfl
    · exact head3 x wq k v 5 _ _ _ _ _ (by delta body0.sl.v970 body0.sl.Hqt_4; exact q_read x wq 3 5 _ _ _ hT) rfl hM rfl rfl
    · exact head3 x wq k v 6 _ _ _ _ _ (by delta body0.sl.v999 body0.sl.Hqt_4; exact q_read x wq 3 6 _ _ _ hT) rfl hM rfl rfl
    · exact head3 x wq k v 7 _ _ _ _ _ (by delta body0.sl.v1028 body0.sl.Hqt_4; exact q_read x wq 3 7 _ _ _ hT) rfl hM rfl rfl
  icases Hs3 with ⟨Hs3, Hs4⟩
  ihave Hs3 := (Entails.of_eq (slot_thirds X 3)) $$ Hs3
  icases Hs3 with ⟨Ha3, Hb3, Hs3⟩
  ihave Hs3 := (Entails.of_eq (slot_lit3 0 qC X)) $$ Hs3
  ihave Hs4 := (Entails.of_eq (slot_thirds X 4)) $$ Hs4
  icases Hs4 with ⟨Ha4, Hb4, Hs4⟩
  ihave Hs4 := (Entails.of_eq (slot_lit4 0 qC X)) $$ Hs4
  iapply (send_slot X K 0 1 _ (Fin.ext (show k0_dev9 = 1 by decide)) 3 5 15 (by decide) (by decide) qA (by decide) (by decide) rfl rfl
    (pay_sendA X 0 5 (by decide) (by decide) false) (pay_recv X 1 15 (by decide) false) [(1, 16), (3, 16), (3, 15), (3, 1), (1, 1)]) $$ Hk HO Ht5 Hu5 Ha3 Hd5
  iintro ⟨HO, Hf5⟩
  sl_exec
  iapply (send_slot X K 0 1 _ (Fin.ext (show k0_dev10 = 1 by decide)) 4 6 16 (by decide) (by decide) qA (by decide) (by decide) rfl rfl
    (pay_sendA X 0 6 (by decide) (by decide) false) (pay_recv X 1 16 (by decide) false) [(3, 16), (3, 15), (3, 1), (1, 1)]) $$ Hk HO Ht6 Hu6 Ha4 Hd6
  iintro ⟨HO, Hf6⟩
  sl_exec
  iapply (send_slot X K 0 3 _ (Fin.ext (show k0_dev11 = 3 by decide)) 4 11 16 (by decide) (by decide) qB (by decide) (by decide) rfl rfl
    (pay_sendB X 0 11 (by decide) (by decide) false) (pay_recv X 3 16 (by decide) false) [(3, 15), (3, 1), (1, 1)]) $$ Hk HO Ht11 Hu11 Hb4 Hd11
  iintro ⟨HO, Hf11⟩
  sl_exec
  iapply (send_slot X K 0 3 _ (Fin.ext (show k0_dev12 = 3 by decide)) 3 10 15 (by decide) (by decide) qB (by decide) (by decide) rfl rfl
    (pay_sendB X 0 10 (by decide) (by decide) false) (pay_recv X 3 15 (by decide) false) [(3, 1), (1, 1)]) $$ Hk HO Ht10 Hu10 Hb3 Hd10
  iintro ⟨HO, Hf10⟩
  sl_exec
  iapply (wait_slot X K 0 2 (by decide) (by decide) [(3, 1), (1, 1)] (by decide) rfl) $$ Hk Hlev Hf2 HO Hr2
  iintro ⟨HO, Hr2, Ha0⟩
  sl_exec
  iapply (wait_slot X K 0 7 (by decide) (by decide) [(3, 1), (1, 1)] (by decide) rfl) $$ Hk Hlev Hf7 HO Hr7
  iintro ⟨HO, Hr7, Hb0⟩
  sl_exec
  iapply (wait_slot X K 0 3 (by decide) (by decide) [(3, 1), (1, 1)] (by decide) rfl) $$ Hk Hlev Hf3 HO Hr3
  iintro ⟨HO, Hr3, Ha1⟩
  sl_exec
  iapply (wait_slot X K 0 8 (by decide) (by decide) [(3, 1), (1, 1)] (by decide) rfl) $$ Hk Hlev Hf8 HO Hr8
  iintro ⟨HO, Hr8, Hb1⟩
  sl_exec
  iapply (wait_slot X K 0 4 (by decide) (by decide) [(3, 1), (1, 1)] (by decide) rfl) $$ Hk Hlev Hf4 HO Hr4
  iintro ⟨HO, Hr4, Ha2⟩
  sl_exec
  iapply (wait_slot X K 0 9 (by decide) (by decide) [(3, 1), (1, 1)] (by decide) rfl) $$ Hk Hlev Hf9 HO Hr9
  iintro ⟨HO, Hr9, Hb2⟩
  sl_exec
  iapply (wait_slot X K 0 5 (by decide) (by decide) [(3, 1), (1, 1)] (by decide) rfl) $$ Hk Hlev Hf5 HO Hr5
  iintro ⟨HO, Hr5, Ha3⟩
  sl_exec
  iapply (wait_slot X K 0 6 (by decide) (by decide) [(3, 1), (1, 1)] (by decide) rfl) $$ Hk Hlev Hf6 HO Hr6
  iintro ⟨HO, Hr6, Ha4⟩
  sl_exec
  iapply (wait_slot X K 0 11 (by decide) (by decide) [(3, 1), (1, 1)] (by decide) rfl) $$ Hk Hlev Hf11 HO Hr11
  iintro ⟨HO, Hr11, Hb4⟩
  sl_exec
  iapply (wait_slot X K 0 10 (by decide) (by decide) [(3, 1), (1, 1)] (by decide) rfl) $$ Hk Hlev Hf10 HO Hr10
  iintro ⟨HO, Hr10, Hb3⟩
  sl_exec
  iapply (pay_signal X K 0 3 _ (by decide) 1 _ rfl true (by decide) rfl _) $$ Hk HO HteP []
  · rw [exit_pay]; iempintro
  iintro HO
  sl_exec
  iapply (pay_signal X K 0 1 _ (by decide) 1 _ rfl false (by decide) rfl _) $$ Hk HO HteN []
  · rw [exit_pay]; iempintro
  iintro HO
  sl_exec
  iapply (wait_both X K 0 1 _ rfl (by decide) rfl [] (by decide)) $$ Hk Hlev Hce HO Hae
  iintro ⟨HO, Hae, -, -⟩
  sl_exec
  rw [wp_ret]; imodintro
  ihave Ha0 := (Entails.of_eq (pay_sendA X 0 2 (by decide) (by decide) false)) $$ Ha0
  ihave Hb0 := (Entails.of_eq (pay_sendB X 0 7 (by decide) (by decide) false)) $$ Hb0
  ihave Hs0 := (Entails.of_eq (slot_lit0 0 qC X).symm) $$ Hs0
  ihave Hs0 := (Entails.of_eq (slot_thirds X 0).symm) $$ [Ha0 Hb0 Hs0]
  · isplitl [Ha0]; · iexact Ha0
    isplitl [Hb0]; · iexact Hb0
    iexact Hs0
  ihave Ha1 := (Entails.of_eq (pay_sendA X 0 3 (by decide) (by decide) false)) $$ Ha1
  ihave Hb1 := (Entails.of_eq (pay_sendB X 0 8 (by decide) (by decide) false)) $$ Hb1
  ihave Hs1 := (Entails.of_eq (slot_lit1 0 qC X).symm) $$ Hs1
  ihave Hs1 := (Entails.of_eq (slot_thirds X 1).symm) $$ [Ha1 Hb1 Hs1]
  · isplitl [Ha1]; · iexact Ha1
    isplitl [Hb1]; · iexact Hb1
    iexact Hs1
  ihave Ha2 := (Entails.of_eq (pay_sendA X 0 4 (by decide) (by decide) false)) $$ Ha2
  ihave Hb2 := (Entails.of_eq (pay_sendB X 0 9 (by decide) (by decide) false)) $$ Hb2
  ihave Hs2 := (Entails.of_eq (slot_lit2 0 qC X).symm) $$ Hs2
  ihave Hs2 := (Entails.of_eq (slot_thirds X 2).symm) $$ [Ha2 Hb2 Hs2]
  · isplitl [Ha2]; · iexact Ha2
    isplitl [Hb2]; · iexact Hb2
    iexact Hs2
  ihave Ha3 := (Entails.of_eq (pay_sendA X 0 5 (by decide) (by decide) false)) $$ Ha3
  ihave Hb3 := (Entails.of_eq (pay_sendB X 0 10 (by decide) (by decide) false)) $$ Hb3
  ihave Hs3 := (Entails.of_eq (slot_lit3 0 qC X).symm) $$ Hs3
  ihave Hs3 := (Entails.of_eq (slot_thirds X 3).symm) $$ [Ha3 Hb3 Hs3]
  · isplitl [Ha3]; · iexact Ha3
    isplitl [Hb3]; · iexact Hb3
    iexact Hs3
  ihave Ha4 := (Entails.of_eq (pay_sendA X 0 6 (by decide) (by decide) false)) $$ Ha4
  ihave Hb4 := (Entails.of_eq (pay_sendB X 0 11 (by decide) (by decide) false)) $$ Hb4
  ihave Hs4 := (Entails.of_eq (slot_lit4 0 qC X).symm) $$ Hs4
  ihave Hs4 := (Entails.of_eq (slot_thirds X 4).symm) $$ [Ha4 Hb4 Hs4]
  · isplitl [Ha4]; · iexact Ha4
    isplitl [Hb4]; · iexact Hb4
    iexact Hs4
  iapply HQ
  isplitr [Hx Hwq Hkey Hval Hxa Hxb Hqt Hmk Hv5 Hv6]
  · isplitl [HO]; · iexact HO
    isplitl [Hab Hae Hr2 Hr3 Hr4 Hr5 Hr6 Hr7 Hr8 Hr9 Hr10 Hr11]
    · isplitl [Hab]; · iexact Hab
      isplitl [Hae]; · iexact Hae
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      iempintro
    isplitl [Hs0 Hs1 Hs2 Hs3 Hs4]
    · iapply eb
      isplitl [Hs0]; · iexact Hs0
      isplitl [Hs1]; · iexact Hs1
      isplitl [Hs2]; · iexact Hs2
      isplitl [Hs3]; · iexact Hs3
      isplitl [Hs4]; · iexact Hs4
      iempintro
    isplitl [Hwo]; · iexact Hwo
    iapply (out_done X 0 W f0 [4, 3, 2, 1, 0] (by decide))
    iexact Hout
  isplitl [Hx]; · iexact Hx
  isplitl [Hwq]; · iexact Hwq
  isplitl [Hkey]; · iexact Hkey
  isplitl [Hval]; · iexact Hval
  isplitl [Hxa]; · iexists _; iexact Hxa
  isplitl [Hxb]; · iexists _; iexact Hxb
  isplitl [Hqt]; · iexists _; iexact Hqt
  isplitl [Hmk]; · iexists _; iexact Hmk
  isplitl [Hv5]; · iexact Hv5
  iexact Hv6
end Device0
end Cert.KProof
end
-- ==== Proof.Device1.lean ====
/-
Device 1: it receives every slot from device 0 and sends the first four on to device 2.
-/
module

public import proofs.«01_k».proof.Proof.Core

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Device1
variable (X : CtxBuf F) (K : Key → ℕ)

set_option maxHeartbeats 1600000 in
/-- Device 1: it receives every slot, sends the first four on to device 2, and projects each. -/
theorem body1 (W : WoBuf F) (Q : PUnit → sProp 𝕄) : iprop(corePre X K 1 W ∗ (corePost X 1 W -∗ Q ⟨⟩))
    ⊢ wp frame (wpE (defs₀ (F := F)) 𝒱₀ (1 : Dev nD) none) Set.univ (bodyAt (F := F)) Q := by
  have hc1 : ¬ (k0_cond1 (1 : Dev nD) = 1#1) := by decide
  have hc2 : (k0_cond2 (1 : Dev nD) = 1#1) := by decide
  have hc3 : ¬ (k0_cond3 (1 : Dev nD) = 1#1) := by decide
  have e1 : sigToks 1 = [((0, 0), true), ((2, 0), false), ((0, 1), true), ((2, 1), false)] := by decide
  have e2 : sendToks 1 ++ sends 1 = [(1, 7), (1, 8), (1, 9), (1, 10), (2, 12), (2, 13), (2, 14), (2, 15)] := by decide
  have e3 : recvList 1 = [12, 13, 14, 15, 16] := by decide
  have e4 : actList 1 = [0, 1, 7, 8, 9, 10, 12, 13, 14, 15, 16] := by decide
  have e5 : debts 1 = [(0, 0), (2, 0), (2, 12), (2, 13), (2, 14), (2, 15), (0, 1), (2, 1)] := by decide
  have eg := ctx_give (F := F) (1 : Dev nD)
  have eb := ctx_back (1 : Dev nD) X
  unfold corePre corePost
  rw [e1, e2, e3, e4, e5]
  rw [slots_list] at eg
  simp only [sepList] at eb ⊢
  iintro ⟨⟨#Hk, #Hlev, HO, ⟨HtbP, HtbN, HteP, HteN, -⟩, ⟨Ht0, Ht1, Ht2, Ht3, Hu0, Hu1, Hu2, Hu3, -⟩, ⟨Hcb, Hce, -⟩, ⟨Hc0, Hc1, Hc2, Hc3, Hc4, -⟩,
    ⟨Hab, Hae, Hb0, Hb1, Hb2, Hb3, Ha0, Ha1, Ha2, Ha3, Ha4, -⟩, Hctx, Hwo, ⟨%f0, Hout⟩⟩, HQ⟩
  ihave Hs := eg $$ Hctx
  unfold woPts outPts
  sl_exec
  iapply (pay_signal X K 1 0 _ (by decide) 0 _ rfl true (by decide) rfl _) $$ Hk HO HtbP [Hs]
  · rw [bar10, slots_list]; iexact Hs
  iintro HO
  sl_exec
  iapply (pay_signal X K 1 2 _ (by decide) 0 _ rfl false (by decide) rfl _) $$ Hk HO HtbN []
  · rw [bar12]; iempintro
  iintro HO
  sl_exec
  iapply (wait_both X K 1 0 _ rfl (by decide) rfl [(2, 12), (2, 13), (2, 14), (2, 15), (0, 1), (2, 1)] (by decide)) $$ Hk Hlev Hcb HO Hab
  iintro ⟨HO, Hab, Hp, -⟩
  ihave Hp := (Entails.of_eq (bar21 X)) $$ Hp
  icases Hp with ⟨Hd0, Hd1, Hd2, Hd3, -⟩
  sl_exec
  iapply (wait_slot X K 1 12 (by decide) (by decide) [(2, 12), (2, 13), (2, 14), (2, 15), (0, 1), (2, 1)] (by decide) rfl) $$ Hk Hlev Hc0 HO Ha0
  iintro ⟨HO, Ha0, Hs0⟩
  ihave Hs0 := (recv_split X 1 12 0 (by decide) rfl) $$ Hs0
  icases Hs0 with ⟨Hl0, Hs0⟩
  sl_exec
  iapply (send_slot X K 1 2 _ (Fin.ext (show k0_dev13 = 2 by decide)) 0 7 12 (by decide) (by decide) fullShare.left (by decide) (by decide) rfl rfl
    (pay_sendB X 1 7 (by decide) (by decide) false) (pay_recv X 2 12 (by decide) false) [(2, 13), (2, 14), (2, 15), (0, 1), (2, 1)]) $$ Hk HO Ht0 Hu0 Hl0 Hd0
  iintro ⟨HO, Hf0⟩
  ihave Hs0 := (Entails.of_eq (slot_lit0 1 fullShare.right X)) $$ Hs0
  sl_exec
  iapply (wait_slot X K 1 13 (by decide) (by decide) [(2, 13), (2, 14), (2, 15), (0, 1), (2, 1)] (by decide) rfl) $$ Hk Hlev Hc1 HO Ha1
  iintro ⟨HO, Ha1, Hs1⟩
  ihave Hs1 := (recv_split X 1 13 1 (by decide) rfl) $$ Hs1
  icases Hs1 with ⟨Hl1, Hs1⟩
  sl_exec
  iapply (send_slot X K 1 2 _ (Fin.ext (show k0_dev14 = 2 by decide)) 1 8 13 (by decide) (by decide) fullShare.left (by decide) (by decide) rfl rfl
    (pay_sendB X 1 8 (by decide) (by decide) false) (pay_recv X 2 13 (by decide) false) [(2, 14), (2, 15), (0, 1), (2, 1)]) $$ Hk HO Ht1 Hu1 Hl1 Hd1
  iintro ⟨HO, Hf1⟩
  ihave Hs1 := (Entails.of_eq (slot_lit1 1 fullShare.right X)) $$ Hs1
  sl_exec
  iapply (wait_slot X K 1 14 (by decide) (by decide) [(2, 14), (2, 15), (0, 1), (2, 1)] (by decide) rfl) $$ Hk Hlev Hc2 HO Ha2
  iintro ⟨HO, Ha2, Hs2⟩
  ihave Hs2 := (recv_split X 1 14 2 (by decide) rfl) $$ Hs2
  icases Hs2 with ⟨Hl2, Hs2⟩
  sl_exec
  iapply (send_slot X K 1 2 _ (Fin.ext (show k0_dev15 = 2 by decide)) 2 9 14 (by decide) (by decide) fullShare.left (by decide) (by decide) rfl rfl
    (pay_sendB X 1 9 (by decide) (by decide) false) (pay_recv X 2 14 (by decide) false) [(2, 15), (0, 1), (2, 1)]) $$ Hk HO Ht2 Hu2 Hl2 Hd2
  iintro ⟨HO, Hf2⟩
  ihave Hs2 := (Entails.of_eq (slot_lit2 1 fullShare.right X)) $$ Hs2
  sl_exec
  iapply (wait_slot X K 1 15 (by decide) (by decide) [(2, 15), (0, 1), (2, 1)] (by decide) rfl) $$ Hk Hlev Hc3 HO Ha3
  iintro ⟨HO, Ha3, Hs3⟩
  ihave Hs3 := (recv_split X 1 15 3 (by decide) rfl) $$ Hs3
  icases Hs3 with ⟨Hl3, Hs3⟩
  sl_exec
  iapply (send_slot X K 1 2 _ (Fin.ext (show k0_dev16 = 2 by decide)) 3 10 15 (by decide) (by decide) fullShare.left (by decide) (by decide) rfl rfl
    (pay_sendB X 1 10 (by decide) (by decide) false) (pay_recv X 2 15 (by decide) false) [(0, 1), (2, 1)]) $$ Hk HO Ht3 Hu3 Hl3 Hd3
  iintro ⟨HO, Hf3⟩
  ihave Hs3 := (Entails.of_eq (slot_lit3 1 fullShare.right X)) $$ Hs3
  sl_exec
  iapply (wait_slot X K 1 16 (by decide) (by decide) [(0, 1), (2, 1)] (by decide) rfl) $$ Hk Hlev Hc4 HO Ha4
  iintro ⟨HO, Ha4, Hs4⟩
  ihave Hs4 := (Entails.of_eq (recv_lit4 X 1)) $$ Hs4
  sl_exec
  iapply (wait_slot X K 1 7 (by decide) (by decide) [(0, 1), (2, 1)] (by decide) rfl) $$ Hk Hlev Hf0 HO Hb0
  iintro ⟨HO, Hb0, Hl0⟩
  sl_exec
  iapply (wait_slot X K 1 8 (by decide) (by decide) [(0, 1), (2, 1)] (by decide) rfl) $$ Hk Hlev Hf1 HO Hb1
  iintro ⟨HO, Hb1, Hl1⟩
  sl_exec
  iapply (wait_slot X K 1 9 (by decide) (by decide) [(0, 1), (2, 1)] (by decide) rfl) $$ Hk Hlev Hf2 HO Hb2
  iintro ⟨HO, Hb2, Hl2⟩
  sl_exec
  iapply (wait_slot X K 1 10 (by decide) (by decide) [(0, 1), (2, 1)] (by decide) rfl) $$ Hk Hlev Hf3 HO Hb3
  iintro ⟨HO, Hb3, Hl3⟩
  sl_exec
  iapply (pay_signal X K 1 0 _ (by decide) 1 _ rfl true (by decide) rfl _) $$ Hk HO HteP []
  · rw [exit_pay]; iempintro
  iintro HO
  sl_exec
  iapply (pay_signal X K 1 2 _ (by decide) 1 _ rfl false (by decide) rfl _) $$ Hk HO HteN []
  · rw [exit_pay]; iempintro
  iintro HO
  sl_exec
  iapply (wait_both X K 1 1 _ rfl (by decide) rfl [] (by decide)) $$ Hk Hlev Hce HO Hae
  iintro ⟨HO, Hae, -, -⟩
  sl_exec
  rw [wp_ret]; imodintro
  ihave Hs4 := (Entails.of_eq (slot_lit4 1 fullShare X).symm) $$ Hs4
  ihave Hs0 := (Entails.of_eq (slot_lit0 1 fullShare.right X).symm) $$ Hs0
  ihave Hs0 := (fwd_join X 1 (by decide) 7 0 (by decide) (by decide) rfl) $$ [Hl0 Hs0]
  · isplitl [Hl0]; · iexact Hl0
    iexact Hs0
  ihave Hs1 := (Entails.of_eq (slot_lit1 1 fullShare.right X).symm) $$ Hs1
  ihave Hs1 := (fwd_join X 1 (by decide) 8 1 (by decide) (by decide) rfl) $$ [Hl1 Hs1]
  · isplitl [Hl1]; · iexact Hl1
    iexact Hs1
  ihave Hs2 := (Entails.of_eq (slot_lit2 1 fullShare.right X).symm) $$ Hs2
  ihave Hs2 := (fwd_join X 1 (by decide) 9 2 (by decide) (by decide) rfl) $$ [Hl2 Hs2]
  · isplitl [Hl2]; · iexact Hl2
    iexact Hs2
  ihave Hs3 := (Entails.of_eq (slot_lit3 1 fullShare.right X).symm) $$ Hs3
  ihave Hs3 := (fwd_join X 1 (by decide) 10 3 (by decide) (by decide) rfl) $$ [Hl3 Hs3]
  · isplitl [Hl3]; · iexact Hl3
    iexact Hs3
  iapply HQ
  isplitl [HO]; · iexact HO
  isplitl [Hab Hae Hb0 Hb1 Hb2 Hb3 Ha0 Ha1 Ha2 Ha3 Ha4]
  · isplitl [Hab]; · iexact Hab
    isplitl [Hae]; · iexact Hae
    isplitl [Hb0]; · iexact Hb0
    isplitl [Hb1]; · iexact Hb1
    isplitl [Hb2]; · iexact Hb2
    isplitl [Hb3]; · iexact Hb3
    isplitl [Ha0]; · iexact Ha0
    isplitl [Ha1]; · iexact Ha1
    isplitl [Ha2]; · iexact Ha2
    isplitl [Ha3]; · iexact Ha3
    isplitl [Ha4]; · iexact Ha4
    iempintro
  isplitl [Hs0 Hs1 Hs2 Hs3 Hs4]
  · iapply eb
    isplitl [Hs0]; · iexact Hs0
    isplitl [Hs1]; · iexact Hs1
    isplitl [Hs2]; · iexact Hs2
    isplitl [Hs3]; · iexact Hs3
    isplitl [Hs4]; · iexact Hs4
    iempintro
  isplitl [Hwo]; · iexact Hwo
  iapply (out_done X 1 W f0 [4, 3, 2, 1, 0] (by decide))
  iexact Hout
end Device1
end Cert.KProof
end
-- ==== Proof.Device2.lean ====
/-
Device 2: it receives every slot and sends nothing on.
-/
module

public import proofs.«01_k».proof.Proof.Core

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Device2
variable (X : CtxBuf F) (K : Key → ℕ)

set_option maxHeartbeats 1600000 in
/-- Device 2: it receives the five slots and projects each. -/
theorem body2 (W : WoBuf F) (Q : PUnit → sProp 𝕄) : iprop(corePre X K 2 W ∗ (corePost X 2 W -∗ Q ⟨⟩))
    ⊢ wp frame (wpE (defs₀ (F := F)) 𝒱₀ (2 : Dev nD) none) Set.univ (bodyAt (F := F)) Q := by
  have hc1 : ¬ (k0_cond1 (2 : Dev nD) = 1#1) := by decide
  have hc2 : ¬ (k0_cond2 (2 : Dev nD) = 1#1) := by decide
  have hc3 : ¬ (k0_cond3 (2 : Dev nD) = 1#1) := by decide
  have e1 : sigToks 2 = [((1, 0), true), ((3, 0), false), ((1, 1), true), ((3, 1), false)] := by decide
  have e2 : sendToks 2 ++ sends 2 = [] := by decide
  have e3 : recvList 2 = [12, 13, 14, 15, 16] := by decide
  have e4 : actList 2 = [0, 1, 12, 13, 14, 15, 16] := by decide
  have e5 : debts 2 = [(1, 0), (3, 0), (1, 1), (3, 1)] := by decide
  have eg := ctx_give (F := F) (2 : Dev nD)
  have eb := ctx_back (2 : Dev nD) X
  unfold corePre corePost
  simp only [e1, e2, e3, e4, e5, sepList] at eg eb ⊢
  rw [slot_lit0, slot_lit1, slot_lit2, slot_lit3, slot_lit4] at eb
  iintro ⟨⟨#Hk, #Hlev, HO, ⟨HtbP, HtbN, HteP, HteN, -⟩, -, ⟨Hcb, Hce, -⟩, ⟨Hc0, Hc1, Hc2, Hc3, Hc4, -⟩,
    ⟨Hab, Hae, Ha0, Ha1, Ha2, Ha3, Ha4, -⟩, Hctx, Hwo, ⟨%f0, Hout⟩⟩, HQ⟩
  ihave Hs := eg $$ Hctx
  icases Hs with ⟨Hs0, Hs1, Hs2, Hs3, Hs4, -⟩
  unfold woPts outPts
  sl_exec
  iapply (pay_signal X K 2 1 _ (by decide) 0 _ rfl true (by decide) rfl _) $$ Hk HO HtbP [Hs0 Hs1 Hs2 Hs3]
  · rw [bar21]
    isplitl [Hs0]; · iexact Hs0
    isplitl [Hs1]; · iexact Hs1
    isplitl [Hs2]; · iexact Hs2
    isplitl [Hs3]; · iexact Hs3
    iempintro
  iintro HO
  sl_exec
  iapply (pay_signal X K 2 3 _ (by decide) 0 _ rfl false (by decide) rfl _) $$ Hk HO HtbN [Hs4]
  · rw [bar23]
    isplitl [Hs4]; · iexact Hs4
    iempintro
  iintro HO
  sl_exec
  iapply (wait_both X K 2 0 _ rfl (by decide) rfl [(1, 1), (3, 1)] (by decide)) $$ Hk Hlev Hcb HO Hab
  iintro ⟨HO, Hab, -, -⟩
  sl_exec
  iapply (wait_slot X K 2 12 (by decide) (by decide) [(1, 1), (3, 1)] (by decide) rfl) $$ Hk Hlev Hc0 HO Ha0
  iintro ⟨HO, Ha0, Hs0⟩
  ihave Hs0 := (Entails.of_eq (recv_lit0 X 2)) $$ Hs0
  sl_exec
  iapply (wait_slot X K 2 13 (by decide) (by decide) [(1, 1), (3, 1)] (by decide) rfl) $$ Hk Hlev Hc1 HO Ha1
  iintro ⟨HO, Ha1, Hs1⟩
  ihave Hs1 := (Entails.of_eq (recv_lit1 X 2)) $$ Hs1
  sl_exec
  iapply (wait_slot X K 2 14 (by decide) (by decide) [(1, 1), (3, 1)] (by decide) rfl) $$ Hk Hlev Hc2 HO Ha2
  iintro ⟨HO, Ha2, Hs2⟩
  ihave Hs2 := (Entails.of_eq (recv_lit2 X 2)) $$ Hs2
  sl_exec
  iapply (wait_slot X K 2 15 (by decide) (by decide) [(1, 1), (3, 1)] (by decide) rfl) $$ Hk Hlev Hc3 HO Ha3
  iintro ⟨HO, Ha3, Hs3⟩
  ihave Hs3 := (Entails.of_eq (recv_lit3 X 2)) $$ Hs3
  sl_exec
  iapply (wait_slot X K 2 16 (by decide) (by decide) [(1, 1), (3, 1)] (by decide) rfl) $$ Hk Hlev Hc4 HO Ha4
  iintro ⟨HO, Ha4, Hs4⟩
  ihave Hs4 := (Entails.of_eq (recv_lit4 X 2)) $$ Hs4
  sl_exec
  iapply (pay_signal X K 2 1 _ (by decide) 1 _ rfl true (by decide) rfl _) $$ Hk HO HteP []
  · rw [exit_pay]; iempintro
  iintro HO
  sl_exec
  iapply (pay_signal X K 2 3 _ (by decide) 1 _ rfl false (by decide) rfl _) $$ Hk HO HteN []
  · rw [exit_pay]; iempintro
  iintro HO
  sl_exec
  iapply (wait_both X K 2 1 _ rfl (by decide) rfl [] (by decide)) $$ Hk Hlev Hce HO Hae
  iintro ⟨HO, Hae, -, -⟩
  sl_exec
  rw [wp_ret]; imodintro
  iapply HQ
  isplitl [HO]; · iexact HO
  isplitl [Hab Hae Ha0 Ha1 Ha2 Ha3 Ha4]
  · isplitl [Hab]; · iexact Hab
    isplitl [Hae]; · iexact Hae
    isplitl [Ha0]; · iexact Ha0
    isplitl [Ha1]; · iexact Ha1
    isplitl [Ha2]; · iexact Ha2
    isplitl [Ha3]; · iexact Ha3
    isplitl [Ha4]; · iexact Ha4
    iempintro
  isplitl [Hs0 Hs1 Hs2 Hs3 Hs4]
  · iapply eb
    isplitl [Hs0]; · iexact Hs0
    isplitl [Hs1]; · iexact Hs1
    isplitl [Hs2]; · iexact Hs2
    isplitl [Hs3]; · iexact Hs3
    isplitl [Hs4]; · iexact Hs4
    iempintro
  isplitl [Hwo]; · iexact Hwo
  iapply (out_done X 2 W f0 [4, 3, 2, 1, 0] (by decide))
  iexact Hout
end Device2
end Cert.KProof
end
-- ==== Proof.Device3.lean ====
/-
Device 3: it receives every slot from device 0 and sends the last one on to device 2.
-/
module

public import proofs.«01_k».proof.Proof.Core

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Device3
variable (X : CtxBuf F) (K : Key → ℕ)

set_option maxHeartbeats 1600000 in
/-- Device 3: it receives every slot, the last one first, sends that one on to device 2, and projects each. -/
theorem body3 (W : WoBuf F) (Q : PUnit → sProp 𝕄) : iprop(corePre X K 3 W ∗ (corePost X 3 W -∗ Q ⟨⟩))
    ⊢ wp frame (wpE (defs₀ (F := F)) 𝒱₀ (3 : Dev nD) none) Set.univ (bodyAt (F := F)) Q := by
  have hc1 : ¬ (k0_cond1 (3 : Dev nD) = 1#1) := by decide
  have hc2 : ¬ (k0_cond2 (3 : Dev nD) = 1#1) := by decide
  have hc3 : (k0_cond3 (3 : Dev nD) = 1#1) := by decide
  have e1 : sigToks 3 = [((2, 0), true), ((0, 0), false), ((2, 1), true), ((0, 1), false)] := by decide
  have e2 : sendToks 3 ++ sends 3 = [(3, 11), (2, 16)] := by decide
  have e3 : recvList 3 = [12, 13, 14, 15, 16] := by decide
  have e4 : actList 3 = [0, 1, 11, 12, 13, 14, 15, 16] := by decide
  have e5 : debts 3 = [(2, 0), (0, 0), (2, 16), (2, 1), (0, 1)] := by decide
  have eg := ctx_give (F := F) (3 : Dev nD)
  have eb := ctx_back (3 : Dev nD) X
  unfold corePre corePost
  rw [e1, e2, e3, e4, e5]
  rw [slots_list] at eg
  simp only [sepList] at eb ⊢
  iintro ⟨⟨#Hk, #Hlev, HO, ⟨HtbP, HtbN, HteP, HteN, -⟩, ⟨Ht4, Hu4, -⟩, ⟨Hcb, Hce, -⟩, ⟨Hc0, Hc1, Hc2, Hc3, Hc4, -⟩,
    ⟨Hab, Hae, Hb4, Ha0, Ha1, Ha2, Ha3, Ha4, -⟩, Hctx, Hwo, ⟨%f0, Hout⟩⟩, HQ⟩
  ihave Hs := eg $$ Hctx
  unfold woPts outPts
  sl_exec
  iapply (pay_signal X K 3 2 _ (by decide) 0 _ rfl true (by decide) rfl _) $$ Hk HO HtbP []
  · rw [bar32]; iempintro
  iintro HO
  sl_exec
  iapply (pay_signal X K 3 0 _ (by decide) 0 _ rfl false (by decide) rfl _) $$ Hk HO HtbN [Hs]
  · rw [bar30, slots_list]; iexact Hs
  iintro HO
  sl_exec
  iapply (wait_both X K 3 0 _ rfl (by decide) rfl [(2, 16), (2, 1), (0, 1)] (by decide)) $$ Hk Hlev Hcb HO Hab
  iintro ⟨HO, Hab, -, Hp⟩
  ihave Hp := (Entails.of_eq (bar23 X)) $$ Hp
  icases Hp with ⟨Hd4, -⟩
  sl_exec
  iapply (wait_slot X K 3 16 (by decide) (by decide) [(2, 16), (2, 1), (0, 1)] (by decide) rfl) $$ Hk Hlev Hc4 HO Ha4
  iintro ⟨HO, Ha4, Hs4⟩
  ihave Hs4 := (recv_split X 3 16 4 (by decide) rfl) $$ Hs4
  icases Hs4 with ⟨Hl4, Hs4⟩
  sl_exec
  iapply (send_slot X K 3 2 _ (Fin.ext (show k0_dev17 = 2 by decide)) 4 11 16 (by decide) (by decide) fullShare.left (by decide) (by decide) rfl rfl
    (pay_sendB X 3 11 (by decide) (by decide) false) (pay_recv X 2 16 (by decide) false) [(2, 1), (0, 1)]) $$ Hk HO Ht4 Hu4 Hl4 Hd4
  iintro ⟨HO, Hf4⟩
  ihave Hs4 := (Entails.of_eq (slot_lit4 3 fullShare.right X)) $$ Hs4
  sl_exec
  iapply (wait_slot X K 3 12 (by decide) (by decide) [(2, 1), (0, 1)] (by decide) rfl) $$ Hk Hlev Hc0 HO Ha0
  iintro ⟨HO, Ha0, Hs0⟩
  ihave Hs0 := (Entails.of_eq (recv_lit0 X 3)) $$ Hs0
  sl_exec
  iapply (wait_slot X K 3 13 (by decide) (by decide) [(2, 1), (0, 1)] (by decide) rfl) $$ Hk Hlev Hc1 HO Ha1
  iintro ⟨HO, Ha1, Hs1⟩
  ihave Hs1 := (Entails.of_eq (recv_lit1 X 3)) $$ Hs1
  sl_exec
  iapply (wait_slot X K 3 14 (by decide) (by decide) [(2, 1), (0, 1)] (by decide) rfl) $$ Hk Hlev Hc2 HO Ha2
  iintro ⟨HO, Ha2, Hs2⟩
  ihave Hs2 := (Entails.of_eq (recv_lit2 X 3)) $$ Hs2
  sl_exec
  iapply (wait_slot X K 3 15 (by decide) (by decide) [(2, 1), (0, 1)] (by decide) rfl) $$ Hk Hlev Hc3 HO Ha3
  iintro ⟨HO, Ha3, Hs3⟩
  ihave Hs3 := (Entails.of_eq (recv_lit3 X 3)) $$ Hs3
  sl_exec
  iapply (wait_slot X K 3 11 (by decide) (by decide) [(2, 1), (0, 1)] (by decide) rfl) $$ Hk Hlev Hf4 HO Hb4
  iintro ⟨HO, Hb4, Hl4⟩
  sl_exec
  iapply (pay_signal X K 3 2 _ (by decide) 1 _ rfl true (by decide) rfl _) $$ Hk HO HteP []
  · rw [exit_pay]; iempintro
  iintro HO
  sl_exec
  iapply (pay_signal X K 3 0 _ (by decide) 1 _ rfl false (by decide) rfl _) $$ Hk HO HteN []
  · rw [exit_pay]; iempintro
  iintro HO
  sl_exec
  iapply (wait_both X K 3 1 _ rfl (by decide) rfl [] (by decide)) $$ Hk Hlev Hce HO Hae
  iintro ⟨HO, Hae, -, -⟩
  sl_exec
  rw [wp_ret]; imodintro
  ihave Hs0 := (Entails.of_eq (slot_lit0 3 fullShare X).symm) $$ Hs0
  ihave Hs1 := (Entails.of_eq (slot_lit1 3 fullShare X).symm) $$ Hs1
  ihave Hs2 := (Entails.of_eq (slot_lit2 3 fullShare X).symm) $$ Hs2
  ihave Hs3 := (Entails.of_eq (slot_lit3 3 fullShare X).symm) $$ Hs3
  ihave Hs4 := (Entails.of_eq (slot_lit4 3 fullShare.right X).symm) $$ Hs4
  ihave Hs4 := (fwd_join X 3 (by decide) 11 4 (by decide) (by decide) rfl) $$ [Hl4 Hs4]
  · isplitl [Hl4]; · iexact Hl4
    iexact Hs4
  iapply HQ
  isplitl [HO]; · iexact HO
  isplitl [Hab Hae Hb4 Ha0 Ha1 Ha2 Ha3 Ha4]
  · isplitl [Hab]; · iexact Hab
    isplitl [Hae]; · iexact Hae
    isplitl [Hb4]; · iexact Hb4
    isplitl [Ha0]; · iexact Ha0
    isplitl [Ha1]; · iexact Ha1
    isplitl [Ha2]; · iexact Ha2
    isplitl [Ha3]; · iexact Ha3
    isplitl [Ha4]; · iexact Ha4
    iempintro
  isplitl [Hs0 Hs1 Hs2 Hs3 Hs4]
  · iapply eb
    isplitl [Hs0]; · iexact Hs0
    isplitl [Hs1]; · iexact Hs1
    isplitl [Hs2]; · iexact Hs2
    isplitl [Hs3]; · iexact Hs3
    isplitl [Hs4]; · iexact Hs4
    iempintro
  isplitl [Hwo]; · iexact Hwo
  iapply (out_done X 3 W f0 [3, 2, 1, 0, 4] (by decide))
  iexact Hout
end Device3
end Cert.KProof
end
-- ==== Proof.Body.lean ====
/-
Every device's program as the launch theorem wants it: what the launch hands a device, what the device leaves.
-/
module

public import proofs.«01_k».proof.Proof.Device0
public import proofs.«01_k».proof.Proof.Device1
public import proofs.«01_k».proof.Proof.Device2
public import proofs.«01_k».proof.Proof.Device3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Frame
variable (X : CtxBuf F) (K : Key → ℕ)

/-! ## What a device holds beside what the protocol needs -/

/-- The rows of x, the query weights, the keys and the values as staged, the scratch, the two local semaphores. -/
def rest (c : Dev nD) (x : XBuf F) (wq : WqBuf F) (k : KeyBuf F) (v : ValBuf F) : sProp 𝕄 :=
  iprop((((c : Thread nD τ).loc main_arg0) ↦{fullShare} x) ∗ (((c : Thread nD τ).loc cc0_stg0_0) ↦{fullShare} wq)
    ∗ (((c : Thread nD τ).loc cc0_stg1_0) ↦{fullShare} k) ∗ (((c : Thread nD τ).loc cc0_stg2_0) ↦{fullShare} v)
    ∗ (∃ f : XbBuf F, ((c : Thread nD τ).loc cc0_scratch1) ↦{fullShare} f) ∗ (∃ f : QtBuf F, ((c : Thread nD τ).loc cc0_scratch2) ↦{fullShare} f)
    ∗ (∃ f : MkBuf F, ((c : Thread nD τ).loc cc0_scratch3) ↦{fullShare} f)
    ∗ semVal ((c : Thread nD τ), .dma ⟨5, by decide⟩) 0 ∗ semVal ((c : Thread nD τ), .dma ⟨6, by decide⟩) 0)

def half0 : Rect S2x512x1024 := Rect.unit (s := S2x512x1024) ![0, 0, 0] S1x512x1024.size inb_S2x512x1024_S1x512x1024_0_0_0
def half1 : Rect S2x512x1024 := Rect.unit (s := S2x512x1024) ![1, 0, 0] S1x512x1024.size inb_S2x512x1024_S1x512x1024_1_0_0

theorem halves_disjoint : Disjoint half0.set half1.set := by
  refine Finset.disjoint_left.mpr fun j h1 h2 => ?_
  unfold half0 at h1; unfold half1 at h2
  rw [Rect.mem_set_unit] at h1 h2
  have a := (h1 0).2
  have b := (h2 0).1
  have a' : (j 0).val < 0 + 1 := a
  have b' : 1 ≤ (j 0).val := b
  omega
theorem halves_union : half0.set ∪ half1.set = Finset.univ := by
  refine Finset.eq_univ_iff_forall.mpr fun j => ?_
  have h0 : (j 0).val < 2 := (j 0).isLt
  have h1 : (j 1).val < 512 := (j 1).isLt
  have h2 : (j 2).val < 1024 := (j 2).isLt
  rw [Finset.mem_union]
  rcases Nat.lt_or_ge (j 0).val 1 with h | h
  · refine Or.inl ?_
    unfold half0
    rw [Rect.mem_set_unit]
    intro a
    fin_cases a
    · exact ⟨Nat.zero_le _, show (j 0).val < 0 + 1 by omega⟩
    · exact ⟨Nat.zero_le _, show (j 1).val < 0 + 512 by omega⟩
    · exact ⟨Nat.zero_le _, show (j 2).val < 0 + 1024 by omega⟩
  · refine Or.inr ?_
    unfold half1
    rw [Rect.mem_set_unit]
    intro a
    fin_cases a
    · exact ⟨show 1 ≤ (j 0).val by omega, show (j 0).val < 1 + 1 by omega⟩
    · exact ⟨Nat.zero_le _, show (j 1).val < 0 + 512 by omega⟩
    · exact ⟨Nat.zero_le _, show (j 2).val < 0 + 1024 by omega⟩

omit [FloatOps F] in
theorem xb0_eq (f : XbBuf F) : xb0Pts f = (((0 : Dev nD) : Thread nD τ).loc cc0_scratch1 ↦[half0.set]{fullShare} f : sProp 𝕄) := by
  unfold xb0Pts
  have h : ((Memref.whole cc0_scratch1 : Memref sig .tc .vmem S2x512x1024 .f32).slice half0 (fun _ => rfl)).view.set = half0.set := View.set_slice_whole _ _
  rw [← h]; rfl
omit [FloatOps F] in
theorem xb1_eq (f : XbBuf F) : xb1Pts f = (((0 : Dev nD) : Thread nD τ).loc cc0_scratch1 ↦[half1.set]{fullShare} f : sProp 𝕄) := by
  unfold xb1Pts
  have h : ((Memref.whole cc0_scratch1 : Memref sig .tc .vmem S2x512x1024 .f32).slice half1 (fun _ => rfl)).view.set = half1.set := View.set_slice_whole _ _
  rw [← h]; rfl

omit [FloatOps F] in
/-- The buffer of rows is its two halves, -/
theorem xb_split (f : XbBuf F) : (((0 : Dev nD) : Thread nD τ).loc cc0_scratch1 ↦{fullShare} f : sProp 𝕄) ⊢ iprop(xb0Pts f ∗ xb1Pts f) := by
  rw [xb0_eq, xb1_eq]
  have h := (pointsTo_union (nD := nD) (τ := τ) (sig := sig) (Ix := Unit) (Val := Elt F) (Name := ℕ) (U := UU) (Lvl := ℕ)
    (ℓ := ((0 : Dev nD) : Thread nD τ).loc cc0_scratch1) (q := fullShare) (f := f) halves_disjoint).1
  rw [halves_union] at h
  exact h
omit [FloatOps F] in
/-- and the two halves make it up again, whatever they hold. -/
theorem xb_join (f g : XbBuf F) : iprop(xb0Pts f ∗ xb1Pts g) ⊢ iprop(∃ h : XbBuf F, (((0 : Dev nD) : Thread nD τ).loc cc0_scratch1 ↦{fullShare} h : sProp 𝕄)) := by
  rw [xb0_eq, xb1_eq]
  have h := pointsTo_join (nD := nD) (τ := τ) (sig := sig) (Ix := Unit) (Val := Elt F) (Name := ℕ) (U := UU) (Lvl := ℕ)
    (ℓ := ((0 : Dev nD) : Thread nD τ).loc cc0_scratch1) (q := fullShare) (f := f) (g := g) halves_disjoint
  rw [halves_union] at h
  iintro H
  ihave H' := h $$ H
  iexists _; iexact H'

omit [FloatOps F] in
/-- A buffer held through its whole memref. -/
theorem whole_eq (c : Dev nD) (b : Ref sig .tc) (f : b.ty.Contents (Elt F)) :
    ((View.whole b).loc (c : Thread nD τ) ↦[(View.whole b).set]{fullShare} f : sProp 𝕄) = (((c : Thread nD τ).loc b) ↦{fullShare} f) := by
  rw [View.set_whole]

omit [FloatOps F] in
theorem extra_of (x : XBuf F) (wq : WqBuf F) (k : KeyBuf F) (v : ValBuf F) : rest 0 x wq k v ⊢ extra x wq k v := by
  unfold rest extra xPts wqPts keyPts valPts qtPts mkPts
  iintro ⟨Hx, Hwq, Hk, Hv, ⟨%f, Hxb⟩, ⟨%q, Hq⟩, ⟨%g, Hm⟩, H5, H6⟩
  ihave Hxb' := (xb_split f) $$ Hxb
  icases Hxb' with ⟨Ha, Hb⟩
  isplitl [Hx]; · iapply (Entails.of_eq (whole_eq 0 main_arg0 x).symm); iexact Hx
  isplitl [Hwq]; · iapply (Entails.of_eq (whole_eq 0 cc0_stg0_0 wq).symm); iexact Hwq
  isplitl [Hk]; · iapply (Entails.of_eq (whole_eq 0 cc0_stg1_0 k).symm); iexact Hk
  isplitl [Hv]; · iapply (Entails.of_eq (whole_eq 0 cc0_stg2_0 v).symm); iexact Hv
  isplitl [Ha]; · iexists f; iexact Ha
  isplitl [Hb]; · iexists f; iexact Hb
  isplitl [Hq]; · iexists q; iapply (Entails.of_eq (whole_eq 0 cc0_scratch2 q).symm); iexact Hq
  isplitl [Hm]; · iexists g; iapply (Entails.of_eq (whole_eq 0 cc0_scratch3 g).symm); iexact Hm
  isplitl [H5]; · iexact H5
  iexact H6

omit [FloatOps F] in
theorem extra_back (x : XBuf F) (wq : WqBuf F) (k : KeyBuf F) (v : ValBuf F) : extra x wq k v ⊢ rest 0 x wq k v := by
  unfold rest extra xPts wqPts keyPts valPts qtPts mkPts
  iintro ⟨Hx, Hwq, Hk, Hv, ⟨%f, Ha⟩, ⟨%f', Hb⟩, ⟨%q, Hq⟩, ⟨%g, Hm⟩, H5, H6⟩
  isplitl [Hx]; · iapply (Entails.of_eq (whole_eq 0 main_arg0 x)); iexact Hx
  isplitl [Hwq]; · iapply (Entails.of_eq (whole_eq 0 cc0_stg0_0 wq)); iexact Hwq
  isplitl [Hk]; · iapply (Entails.of_eq (whole_eq 0 cc0_stg1_0 k)); iexact Hk
  isplitl [Hv]; · iapply (Entails.of_eq (whole_eq 0 cc0_stg2_0 v)); iexact Hv
  isplitl [Ha Hb]
  · iapply (xb_join f f')
    isplitl [Ha] <;> iassumption
  isplitl [Hq]; · iexists q; iapply (Entails.of_eq (whole_eq 0 cc0_scratch2 q)); iexact Hq
  isplitl [Hm]; · iexists g; iapply (Entails.of_eq (whole_eq 0 cc0_scratch3 g)); iexact Hm
  isplitl [H5]; · iexact H5
  iexact H6

theorem four : ∀ c : Dev nD, c = 0 ∨ c = 1 ∨ c = 2 ∨ c = 3 := by decide
theorem idle_dut : ∀ (c : Dev nD), ∀ k ∈ idleList c, dut (c, k) = ∅ := by decide

/-- Any device's program: from what it starts from to what it leaves. -/
theorem body_all (c : Dev nD) (x : XBuf F) (wq : WqBuf F) (k : KeyBuf F) (v : ValBuf F) (hX : c = 0 → X = ctxBuf x wq k v) (W : WoBuf F)
    (Q : PUnit → sProp 𝕄) :
    iprop(corePre X K c W ∗ rest c x wq k v ∗ (corePost X c W ∗ rest c x wq k v -∗ Q ⟨⟩))
      ⊢ wp frame (wpE (defs₀ (F := F)) 𝒱₀ c none) Set.univ (bodyAt (F := F)) Q := by
  have h : c = 0 ∨ c = 1 ∨ c = 2 ∨ c = 3 := four c
  rcases h with rfl | rfl | rfl | rfl
  · iintro ⟨Hc, Hr, Hw⟩
    iapply (body0 K x wq k v X (hX rfl) W Q)
    isplitl [Hc]; · iexact Hc
    isplitl [Hr]; · iapply (extra_of x wq k v); iexact Hr
    iintro ⟨Hp, He⟩
    iapply Hw
    isplitl [Hp]; · iexact Hp
    iapply (extra_back x wq k v); iexact He
  · iintro ⟨Hc, Hr, Hw⟩
    iapply (body1 X K W Q)
    isplitl [Hc]; · iexact Hc
    iintro Hp
    iapply Hw
    isplitl [Hp] <;> iassumption
  · iintro ⟨Hc, Hr, Hw⟩
    iapply (body2 X K W Q)
    isplitl [Hc]; · iexact Hc
    iintro Hp
    iapply Hw
    isplitl [Hp] <;> iassumption
  · iintro ⟨Hc, Hr, Hw⟩
    iapply (body3 X K W Q)
    isplitl [Hc]; · iexact Hc
    iintro Hp
    iapply Hw
    isplitl [Hp] <;> iassumption

/-! ## The device's own cells, closed at the end -/

omit [FloatOps F] in
/-- A device's cells are those with a round and those without. -/
theorem cells_split (c : Dev nD) (Φ : Fin 17 → sProp 𝕄) : bigSep Finset.univ Φ = iprop(sepList Φ (actList c) ∗ sepList Φ (idleList c)) := by
  have h1 : (actList c).Nodup := by revert c; decide
  have h2 : (idleList c).Nodup := by revert c; decide
  have h3 : Disjoint (actList c).toFinset (idleList c).toFinset := by revert c; decide
  have h4 : (actList c).toFinset ∪ (idleList c).toFinset = Finset.univ := by revert c; decide
  rw [sepList_eq Φ _ h1, sepList_eq Φ _ h2, ← h4, bigSep_union h3]; rfl

omit [FloatOps F] in
theorem sepList_close {I : Type} (R : sProp 𝕄) [BI.Persistent R] (Φ Ψ : I → sProp 𝕄) : ∀ l : List I, (∀ i ∈ l, iprop(R ∗ Φ i) ⊢ iprop(|={Set.univ}=> Ψ i))
    → (iprop(R ∗ sepList Φ l) ⊢ iprop(|={Set.univ}=> sepList Ψ l))
  | [], _ => by unfold sepList; iintro ⟨-, H⟩; imodintro; iexact H
  | i :: l, h => by
    have h1 := h i List.mem_cons_self
    have h2 := sepList_close R Φ Ψ l fun j hj => h j (List.mem_cons_of_mem _ hj)
    unfold sepList
    iintro ⟨#Hr, Hi, Hl⟩
    imod h1 $$ [Hi] with H1
    · isplitr; · iexact Hr
      iexact Hi
    imod h2 $$ [Hl] with H2
    · isplitr; · iexact Hr
      iexact Hl
    imodintro
    isplitl [H1] <;> iassumption

/-- Every cell of the device reads zero once its rounds are over. -/
theorem cells_close (c : Dev nD) :
    iprop(known X K ∗ sepList (fun k : Fin 17 => at1 (F := F) (c, k)) (actList c) ∗ sepList (fun k : Fin 17 => at0 (F := F) (c, k)) (idleList c))
      ⊢ iprop(|={Set.univ}=> bigSep Finset.univ fun k : Fin 17 => semVal (kcell (c, k)) 0) := by
  have h1 := sepList_close (known X K) (fun k : Fin 17 => at1 (F := F) (c, k)) (fun k : Fin 17 => (semVal (kcell (c, k)) 0 : sProp 𝕄)) (actList c)
    fun k _ => close_done X K (c, k)
  have h2 := sepList_close (known X K) (fun k : Fin 17 => at0 (F := F) (c, k)) (fun k : Fin 17 => (semVal (kcell (c, k)) 0 : sProp 𝕄)) (idleList c)
    fun k hk => close_idle X K (c, k) (idle_dut c k hk)
  rw [cells_split c]
  iintro ⟨#Hk, Ha, Hi⟩
  imod h1 $$ [Ha] with H1
  · isplitr; · iexact Hk
    iexact Ha
  imod h2 $$ [Hi] with H2
  · isplitr; · iexact Hk
    iexact Hi
  imodintro
  isplitl [H1] <;> iassumption

end Frame
end Cert.KProof
end
-- ==== Proof.Setup.lean ====
/-
The launch of the four devices: the cells allocated, the payments dealt out, every device's program run, the final state read.
-/
module

public import proofs.«01_k».proof.Proof.Body
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The cells' semaphores but the barrier, and the two of the local copies: the kernel's own. -/
abbrev osem : Fin 18 → SemLoc sig
  | ⟨16, _⟩ => .dma ⟨5, by decide⟩
  | ⟨17, _⟩ => .dma ⟨6, by decide⟩
  | k => csem ⟨min (k.val + 1) 16, by omega⟩

theorem ownSemFacts : Pipeline.OwnSemFacts cfg0.spec osem := by decide

section Launch
variable (m : (ℓ : Loc nD τ sig) → Buf (Elt F) ℓ) (ρ : Dev nD → PrngReg)

def s₀ : MemSt nD τ sig (Elt F) := ⟨m, fun _ => 0, ρ⟩

/-! ## The operands as staged, and the context -/

def xAt (c : Dev nD) : XBuf F := m ((c : Thread nD τ).loc main_arg0)
def wqAt (c : Dev nD) : WqBuf F := (win0_0.blk (0 : Fin 1)).view.read (Elt F) (m ((c : Thread nD τ).loc main_arg1))
def keyAt (c : Dev nD) : KeyBuf F := (win0_1.blk (0 : Fin 1)).view.read (Elt F) (m ((c : Thread nD τ).loc main_arg2))
def valAt (c : Dev nD) : ValBuf F := (win0_2.blk (0 : Fin 1)).view.read (Elt F) (m ((c : Thread nD τ).loc main_arg3))
def woAt (c : Dev nD) : WoBuf F := (win0_3.blk (0 : Fin 1)).view.read (Elt F) (m ((c : Thread nD τ).loc main_arg4))
/-- The attention context: device 0's. -/
def ctxAt : CtxBuf F := ctxBuf (xAt m 0) (wqAt m 0) (keyAt m 0) (valAt m 0)
/-- What device `c` ends with. -/
def outAt (c : Dev nD) : OutBuf F := outBuf (ctxAt m) (woAt m c)

/-! ## What is dealt to a device -/

def toks (c : Dev nD) : sProp 𝕄 :=
  iprop(sepList (fun p : Key × Bool => tok (F := F) p.1 p.2) (sigToks c) ∗ sepList (fun p : Key => tok (F := F) p false) (sendToks c ++ sends c))
def crds (c : Dev nD) : sProp 𝕄 :=
  iprop(sepList (fun k : Fin 17 => crd (F := F) (c, k) 2) [0, 1] ∗ sepList (fun k : Fin 17 => crd (F := F) (c, k) (amt k)) (recvList c))
def loc56 (c : Dev nD) : sProp 𝕄 :=
  iprop(semVal ((c : Thread nD τ), .dma ⟨5, by decide⟩) 0 ∗ semVal ((c : Thread nD τ), .dma ⟨6, by decide⟩) 0)
def xHeld (c : Dev nD) : sProp 𝕄 := (((c : Thread nD τ).loc main_arg0) ↦{fullShare} xAt m c : sProp 𝕄)
def G' (c : Dev nD) : sProp 𝕄 :=
  iprop((∃ K, known (ctxAt m) K) ∗ (bigSep Finset.univ fun k : Fin 17 => at0 (F := F) (c, k)) ∗ toks (F := F) c ∗ loc56 (F := F) c)
def start (c : Dev nD) : sProp 𝕄 := iprop(G' m c ∗ levAts L lv ∗ crds (F := F) c ∗ xHeld m c)
/-- The scratch buffers, whatever they hold. -/
def scratch (c : Dev nD) : sProp 𝕄 :=
  iprop(ctxAny (F := F) c ∗ (∃ f : XbBuf F, ((c : Thread nD τ).loc cc0_scratch1) ↦{fullShare} f) ∗ (∃ f : QtBuf F, ((c : Thread nD τ).loc cc0_scratch2) ↦{fullShare} f)
    ∗ (∃ f : MkBuf F, ((c : Thread nD τ).loc cc0_scratch3) ↦{fullShare} f))
def cells0 (c : Dev nD) : sProp 𝕄 := bigSep Finset.univ fun k : Fin 17 => semVal (kcell (c, k)) 0
def Φ₀ (c : Dev nD) : sProp 𝕄 := iprop(start m c ∗ scratch (F := F) c)
def Φ₁ (c : Dev nD) : sProp 𝕄 := iprop(cells0 (F := F) c ∗ loc56 (F := F) c ∗ xHeld m c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => wqAt m c
    | ⟨1, _⟩ => keyAt m c
    | ⟨2, _⟩ => valAt m c
    | ⟨3, _⟩ => woAt m c
    | ⟨4, _⟩ => outAt m c
  Φ t := match t with
    | ⟨0, _⟩ => Φ₀ m c
    | ⟨_ + 1, _⟩ => Φ₁ m c
  q _ := fullShare
  owed t := match t with
    | ⟨0, _⟩ => owe (debts c)
    | ⟨_ + 1, _⟩ => 0

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ m c ∗ (dats m 0 c).owesAt () t0_0.succ
    ∗ stg c cc0_stg0_0 (wqAt m c) ∗ stg c cc0_stg1_0 (keyAt m c) ∗ stg c cc0_stg2_0 (valAt m c) ∗ stg c cc0_stg3_0 (woAt m c) ∗ stg c cc0_stg4_0 (outAt m c))

theorem fetch_in : ∀ w : Fin 5, w ≠ 4 → (cfg0.win w).fetch t0_0 = true := by decide

theorem sound_body (c : Dev nD) : bodyPre m c ⊢ wp frame (wpE (defs₀ (F := F)) 𝒱₀ c none) Set.univ (bodyAt (F := F)) (fun _ => bodyPost m c) := by
  refine BIBase.Entails.trans ?_ (wp_fupd _ _ _ _ _)
  unfold bodyPre Φ₀ start G' toks crds loc56 scratch
  iintro ⟨⟨⟨⟨⟨%K, #Hk⟩, Hat, ⟨Ht1, Ht2⟩, H5, H6⟩, #Hlev, ⟨Hc1, Hc2⟩, Hx⟩, Hctx, Hs1, Hs2, Hs3⟩, Ho,
    ⟨%d0, %g0, %h0, Hg0⟩, ⟨%d1, %g1, %h1, Hg1⟩, ⟨%d2, %g2, %h2, Hg2⟩, ⟨%d3, %g3, %h3, Hg3⟩, ⟨%d4, %g4, %h4, Hg4⟩⟩
  have e0 : g0 = wqAt m c := by rw [h0]; unfold Dat.before; rw [if_pos (fetch_in 0 (by decide))]; rfl
  have e1 : g1 = keyAt m c := by rw [h1]; unfold Dat.before; rw [if_pos (fetch_in 1 (by decide))]; rfl
  have e2 : g2 = valAt m c := by rw [h2]; unfold Dat.before; rw [if_pos (fetch_in 2 (by decide))]; rfl
  have e3 : g3 = woAt m c := by rw [h3]; unfold Dat.before; rw [if_pos (fetch_in 3 (by decide))]; rfl
  subst e0 e1 e2 e3
  unfold Dat.owesAt Pipeline.owesWithin
  icases Ho with ⟨%W, %hW, HO⟩
  ihave Hat' := (Entails.of_eq (cells_split c fun k : Fin 17 => at0 (F := F) (c, k))) $$ Hat
  icases Hat' with ⟨Ha, Hi⟩
  iapply (body_all (ctxAt m) K c (xAt m c) (wqAt m c) (keyAt m c) (valAt m c) (fun e => by subst e; rfl) (woAt m c))
  isplitl [HO Ht1 Ht2 Hc1 Hc2 Ha Hctx Hg3 Hg4]
  · unfold corePre woPts outPts
    isplitr; · iexact Hk
    isplitr; · iexact Hlev
    isplitl [HO]; · unfold ow; iexists W; iexact HO
    isplitl [Ht1]; · iexact Ht1
    isplitl [Ht2]; · iexact Ht2
    isplitl [Hc1]; · iexact Hc1
    isplitl [Hc2]; · iexact Hc2
    isplitl [Ha]; · iexact Ha
    isplitl [Hctx]; · iexact Hctx
    isplitl [Hg3]; · iapply (Entails.of_eq (whole_eq c cc0_stg3_0 (woAt m c)).symm); iexact Hg3
    iexists g4; iapply (Entails.of_eq (whole_eq c cc0_stg4_0 g4).symm); iexact Hg4
  isplitl [Hx Hg0 Hg1 Hg2 Hs1 Hs2 Hs3 H5 H6]
  · unfold rest xHeld
    isplitl [Hx]; · iexact Hx
    isplitl [Hg0]; · iexact Hg0
    isplitl [Hg1]; · iexact Hg1
    isplitl [Hg2]; · iexact Hg2
    isplitl [Hs1]; · iexact Hs1
    isplitl [Hs2]; · iexact Hs2
    isplitl [Hs3]; · iexact Hs3
    isplitl [H5] <;> iassumption
  unfold corePost rest ow woPts outPts
  iintro ⟨⟨⟨%W', HO⟩, Ha, Hctx, Hg3, Hg4⟩, Hx, Hg0, Hg1, Hg2, Hs1, Hs2, Hs3, H5, H6⟩
  imod (cells_close (ctxAt m) K c) $$ [Ha Hi] with Hz
  · isplitr; · iexact Hk
    isplitl [Ha] <;> iassumption
  imodintro
  unfold bodyPost Φ₁ cells0 loc56 xHeld scratch Dat.owesAt Pipeline.owesWithin
  isplitl [Hz H5 H6 Hx Hctx Hs1 Hs2 Hs3]
  · isplitl [Hz]; · iexact Hz
    isplitl [H5 H6]
    · isplitl [H5] <;> iassumption
    isplitl [Hx]; · iexact Hx
    isplitl [Hctx]; · iexact Hctx
    isplitl [Hs1]; · iexact Hs1
    isplitl [Hs2] <;> iassumption
  isplitl [HO]
  · iexists W'
    isplitr; · ipureintro; exact fun _ _ => Or.inl trivial
    iexact HO
  isplitl [Hg0]; · iexists _; isplitr; · (ipureintro; rfl)
                   iexact Hg0
  isplitl [Hg1]; · iexists _; isplitr; · (ipureintro; rfl)
                   iexact Hg1
  isplitl [Hg2]; · iexists _; isplitr; · (ipureintro; rfl)
                   iexact Hg2
  isplitl [Hg3]
  · iexists (woAt m c); isplitr; · (ipureintro; rfl)
    iapply (Entails.of_eq (whole_eq c cc0_stg3_0 (woAt m c))); iexact Hg3
  iexists (outAt m c); isplitr; · (ipureintro; rfl)
  iapply (Entails.of_eq (whole_eq c cc0_stg4_0 (outAt m c))); iexact Hg4

/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ (bodyAt (F := F)) (fun _ => bodyPost m c)
  exact sound_body m c
end Launch
end Cert.KProof
end
-- ==== Proof.Launch.lean ====
/-
The launch: the cells allocated on every device, the payments dealt to the devices which make them, the run of the machine.
-/
module

public import proofs.«01_k».proof.Proof.Setup

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch
variable (m : (ℓ : Loc nD τ sig) → Buf (Elt F) ℓ) (ρ : Dev nD → PrngReg)

/-! ## The tokens, minted cell by cell and dealt to those who pay -/

def ringCells : Finset (GSem nD τ sig) := Finset.univ.map ⟨kcell, kcell_injective⟩

abbrev tokOf (p : Dev nD × Fin 17 × Bool) : GSem nD τ sig × ℕ × Bool := (kcell (p.1, p.2.1), 0, p.2.2)
theorem tokOf_injective : Function.Injective tokOf := by
  rintro ⟨c, k, b⟩ ⟨c', k', b'⟩ h
  have h1 := kcell_injective (congrArg (fun x : GSem nD τ sig × ℕ × Bool => x.1) h)
  have h2 : b = b' := congrArg (fun x : GSem nD τ sig × ℕ × Bool => x.2.2) h
  have h3 : c = c' := congrArg Prod.fst h1
  have h4 : k = k' := congrArg Prod.snd h1
  subst h2 h3 h4; rfl
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- What the launch element deals device `c`. -/
def G (c : Dev nD) : sProp 𝕄 :=
  iprop((bigSep Finset.univ fun k : Fin 17 => roundState ER (sched (ctxAt m)) (kcell (c, k)) 0)
    ∗ (bigSep Finset.univ fun k : Fin 17 => iprop(at0 (F := F) (c, k) ∗ reached (ER (F := F)) (kcell (c, k)) 0))
    ∗ bigSep Finset.univ fun p : Fin 17 × Bool => tok (F := F) (c, p.1) p.2)

omit [FloatOps F] in
theorem own_ring (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun p : Fin 17 × Bool => tok (F := F) (c, p.1) p.2 := by
    unfold ringToks; rw [bigSep_map, bigSep_univ_prod]; rfl
  iintro HX
  imod (Rounds.fund ER (sched (ctxAt m)) ringCells ringToks) $$ HX with ⟨Hst, Hr, Hat, Htok⟩
  imodintro
  ihave Hst' := (Entails.of_eq (hX fun g => roundState ER (sched (ctxAt m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G at0; simp only [bigSep_sep']
  isplitl [Hst']; · iexact Hst'
  isplitl [Hat' Hr']
  · isplitl [Hat'] <;> iassumption
  iexact Htok'

/-- The payments device `c` makes. -/
def payList (c : Dev nD) : List (Dev nD × Fin 17 × Bool) :=
  (sigToks c).map (fun p => (p.1.1, p.1.2, p.2)) ++ (sendToks c ++ sends c).map (fun p => (p.1, p.2, false))

omit [FloatOps F] in
theorem sepList_append {I : Type} (Φ : I → sProp 𝕄) : ∀ l l' : List I, sepList Φ (l ++ l') ⊢ iprop(sepList Φ l ∗ sepList Φ l')
  | [], l' => by
    show sepList Φ l' ⊢ iprop(emp ∗ sepList Φ l')
    iintro H; isplitr; · iempintro
    iexact H
  | i :: l, l' => by
    have h := sepList_append Φ l l'
    show iprop(Φ i ∗ sepList Φ (l ++ l')) ⊢ iprop((Φ i ∗ sepList Φ l) ∗ sepList Φ l')
    iintro ⟨Hi, H⟩
    ihave H' := h $$ H
    icases H' with ⟨H1, H2⟩
    isplitl [Hi H1]
    · isplitl [Hi] <;> iassumption
    iexact H2
omit [FloatOps F] in
theorem sepList_map {I J : Type} (f : I → J) (Φ : J → sProp 𝕄) : ∀ l : List I, sepList Φ (l.map f) = sepList (fun i => Φ (f i)) l
  | [] => rfl
  | i :: l => by
    show iprop(Φ (f i) ∗ sepList Φ (l.map f)) = iprop(Φ (f i) ∗ sepList (fun i => Φ (f i)) l)
    rw [sepList_map f Φ l]

theorem pay_nodup : ∀ c : Dev nD, (payList c).Nodup := by decide
theorem pay_disjoint : ∀ c c' : Dev nD, c ≠ c' → Disjoint (payList c).toFinset (payList c').toFinset := by decide

theorem deal : (bigSep Finset.univ fun c : Dev nD => bigSep Finset.univ fun p : Fin 17 × Bool => tok (F := F) (c, p.1) p.2)
    ⊢ bigSep Finset.univ fun c : Dev nD => toks (F := F) c := by
  have h1 : (bigSep Finset.univ fun c : Dev nD => bigSep Finset.univ fun p : Fin 17 × Bool => tok (F := F) (c, p.1) p.2)
      = bigSep Finset.univ fun p : Dev nD × Fin 17 × Bool => tok (F := F) (p.1, p.2.1) p.2.2 :=
    (bigSep_univ_prod (fun p : Dev nD × Fin 17 × Bool => tok (F := F) (p.1, p.2.1) p.2.2)).symm
  have h2 : bigSep (Finset.univ.biUnion fun c : Dev nD => (payList c).toFinset) (fun p : Dev nD × Fin 17 × Bool => tok (F := F) (p.1, p.2.1) p.2.2)
      = bigSep Finset.univ fun c : Dev nD => bigSep (payList c).toFinset (fun p : Dev nD × Fin 17 × Bool => tok (F := F) (p.1, p.2.1) p.2.2) :=
    Idealize.SL.BI.bigSep_biUnion_eq _ _ _ (fun c _ c' _ h => pay_disjoint c c' h)
  rw [h1]
  refine (bigSep_subset (Finset.subset_univ (Finset.univ.biUnion fun c : Dev nD => (payList c).toFinset))).trans ?_
  rw [h2]
  refine bigSep_mono fun c _ => ?_
  rw [← sepList_eq _ _ (pay_nodup c)]
  unfold payList toks
  refine (sepList_append _ _ _).trans (Entails.of_eq ?_)
  rw [sepList_map, sepList_map]

/-! ## The global step: the cells allocated -/

omit [FloatOps F] in
theorem sep_rot (A B C : sProp 𝕄) : iprop((A ∗ B) ∗ C) = iprop((C ∗ A) ∗ B) :=
  BI.Entails.antisymm
    (show iprop((A ∗ B) ∗ C) ⊢ iprop((C ∗ A) ∗ B) from by
      iintro ⟨⟨H1, H2⟩, H3⟩
      isplitl [H1 H3]
      · isplitl [H3] <;> iassumption
      iexact H2)
    (show iprop((C ∗ A) ∗ B) ⊢ iprop((A ∗ B) ∗ C) from by
      iintro ⟨⟨H1, H2⟩, H3⟩
      isplitl [H2 H3]
      · isplitl [H2] <;> iassumption
      iexact H1)
omit [FloatOps F] in
theorem sems0_eq (c : Dev nD) :
    iprop(Pipeline.ownSems0 (Ix := Unit) (Name := ℕ) (U := UU) (Lvl := ℕ) (Val := Elt F) (τ := τ) osem c ∗ unscopedSems0 c)
      = iprop(cells0 (F := F) c ∗ loc56 (F := F) c) := by
  have hu : (unscopedSems0 c : sProp 𝕄) = semVal (kcell (c, 0)) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = iprop((bigSep Finset.univ fun k : Fin 16 => semVal (kcell (c, k.succ)) 0) ∗ loc56 (F := F) c) := by
    unfold Pipeline.ownSems0 loc56
    rw [show (Finset.univ : Finset (Fin 18)) = (Finset.univ.map (Fin.castAddEmb (n := 16) 2)) ∪ {16, 17} from by decide,
      bigSep_union (by decide), bigSep_map, bigSep_insert (by decide), bigSep_singleton]
    rfl
  have hc : (cells0 c : sProp 𝕄) = iprop(semVal (kcell (c, 0)) 0 ∗ bigSep Finset.univ fun k : Fin 16 => semVal (kcell (c, k.succ)) 0) := by
    unfold cells0
    rw [show (Finset.univ : Finset (Fin 17)) = insert 0 (Finset.univ.map (Fin.succEmb 16)) from by decide,
      bigSep_insert (by decide), bigSep_map]
    rfl
  rw [hu, ho, hc]
  exact sep_rot _ _ _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (sched (ctxAt m)) κ (kcell (c, k))))
          ∗ (bigSep Finset.univ fun k : Fin 17 => iprop(at0 (F := F) (c, k) ∗ reached (ER (F := F)) (kcell (c, k)) 0))
          ∗ (bigSep Finset.univ fun p : Fin 17 × Bool => tok (F := F) (c, p.1) p.2) ∗ loc56 (F := F) c) := by
  unfold G
  iintro ⟨Hos, Hus, Hst, Hat, Htok⟩
  ihave Hv := (Entails.of_eq (sems0_eq (F := F) c)) $$ [Hos Hus]
  · isplitl [Hos] <;> iassumption
  unfold cells0
  icases Hv with ⟨Hv, H56⟩
  imod (show iprop((bigSep Finset.univ fun k : Fin 17 => semVal (kcell (c, k)) 0) ∗ bigSep Finset.univ fun k : Fin 17 => roundState ER (sched (ctxAt m)) (kcell (c, k)) 0)
      ⊢ (|={Set.univ}=> bigSep Finset.univ fun k : Fin 17 => iprop(∃ κ : ℕ, cellInv ER (sched (ctxAt m)) κ (kcell (c, k))) : sProp 𝕄) from by
        rw [← bigSep_sep']
        exact (bigSep_mono fun k _ => (Rounds.body_intro ER (sched (ctxAt m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 17 => iprop(∃ κ : ℕ, cellInv ER (sched (ctxAt m)) κ (kcell (c, k))))
          ∗ (bigSep Finset.univ fun k : Fin 17 => iprop(at0 (F := F) (c, k) ∗ reached (ER (F := F)) (kcell (c, k)) 0))
          ∗ (bigSep Finset.univ fun p : Fin 17 × Bool => tok (F := F) (c, p.1) p.2) ∗ loc56 (F := F) c) : sProp 𝕄)
      ⊢ bigSep Finset.univ (G' m) := by
  rw [bigSep_sep', bigSep_sep', bigSep_sep', ← bigSep_univ_prod (fun ck : Key => iprop(∃ κ : ℕ, cellInv ER (sched (ctxAt m)) κ (kcell ck))),
    bigSep_congr (s := Finset.univ) (fun (c : Dev nD) _ => bigSep_sep' Finset.univ (fun k : Fin 17 => (at0 (F := F) (c, k) : sProp 𝕄)) (fun k => reached (ER (F := F)) (kcell (c, k)) 0)),
    bigSep_sep', ← bigSep_univ_prod (fun ck : Key => (reached (ER (F := F)) (kcell ck) 0 : sProp 𝕄))]
  iintro ⟨HI, ⟨Hat, #HR⟩, Htok, H56⟩
  ihave HK := (BI.bigSep_exists_pi Finset.univ (fun (ck : Key) (κ : ℕ) => (cellInv ER (sched (ctxAt m)) κ (kcell ck) : sProp 𝕄))) $$ HI
  icases HK with ⟨%K, #HI⟩
  ihave Htk := (deal (F := F)) $$ Htok
  iapply (with_persistent (R := known (ctxAt m) K) (Φ := fun c : Dev nD => iprop((bigSep Finset.univ fun k : Fin 17 => at0 (F := F) (c, k)) ∗ toks (F := F) c ∗ loc56 (F := F) c))
    fun c _ => show _ ⊢ G' m c from by
      unfold G'
      iintro ⟨#Hk, H⟩
      isplitr; · iexists K; iexact Hk
      iexact H)
  isplitr
  · unfold known; isplitl; · iexact HI
    iexact HR
  simp only [bigSep_sep']
  isplitl [Hat]; · iexact Hat
  isplitl [Htk] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

abbrev O₀ (c : Dev nD) : CellTallies nD τ sig Unit := owe (debts c)

theorem credit_cell (c : Dev nD) (k : Fin 17) (n : ℕ) (h : (∑ d : Dev nD, (debts d).count (c, k)) * amt k = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, Finset.sum_congr rfl fun d _ => owe_apply (debts d) (c, k), ← Finset.sum_mul, h]

theorem count_two : ∀ (c : Dev nD), ∀ k ∈ ([0, 1] : List (Fin 17)), (∑ d : Dev nD, (debts d).count (c, k)) = 2 := by decide
theorem count_one : ∀ (c : Dev nD), ∀ k ∈ recvList c, (∑ d : Dev nD, (debts d).count (c, k)) = 1 := by decide
theorem wait_nodup : ∀ c : Dev nD, ([0, 1] ++ recvList c : List (Fin 17)).Nodup := by decide

omit [FloatOps F] in
theorem sepList_mono {I : Type} (Φ Ψ : I → sProp 𝕄) : ∀ l : List I, (∀ i ∈ l, Φ i ⊢ Ψ i) → (sepList Φ l ⊢ sepList Ψ l)
  | [], _ => BI.Entails.refl _
  | i :: l, h => by
    have h1 := h i List.mem_cons_self
    have h2 := sepList_mono Φ Ψ l fun j hj => h j (List.mem_cons_of_mem _ hj)
    show iprop(Φ i ∗ sepList Φ l) ⊢ iprop(Ψ i ∗ sepList Ψ l)
    iintro ⟨Hi, Hl⟩
    isplitl [Hi]; · iapply h1; iexact Hi
    iapply h2; iexact Hl

theorem creds (c : Dev nD) : (Pipeline.launchCred O₀ c : sProp 𝕄) ⊢ crds (F := F) c := by
  unfold Pipeline.launchCred crds
  refine (bigSep_subset (Finset.subset_univ (([0, 1] ++ recvList c : List (Fin 17)).toFinset.map ⟨csem, csem_injective⟩))).trans ?_
  rw [bigSep_map, ← sepList_eq _ _ (wait_nodup c)]
  refine (sepList_append _ _ _).trans ?_
  have h1 := sepList_mono (F := F) (fun k : Fin 17 => (cred (tallyOn (kcell (c, k)) (launchCredit (Pipeline.owing O₀) 0 (kcell (c, k)))) : sProp 𝕄))
    (fun k => crd (F := F) (c, k) 2) [0, 1] fun k hk => by
      unfold crd
      rw [credit_cell c k 2 (by rw [count_two c k hk]; revert k; decide)]
  have h2 := sepList_mono (F := F) (fun k : Fin 17 => (cred (tallyOn (kcell (c, k)) (launchCredit (Pipeline.owing O₀) 0 (kcell (c, k)))) : sProp 𝕄))
    (fun k => crd (F := F) (c, k) (amt k)) (recvList c) fun k hk => by
      unfold crd
      rw [credit_cell c k (amt k) (by rw [count_one c k hk, Nat.one_mul])]
  iintro ⟨H1, H2⟩
  isplitl [H1]; · iapply h1; iexact H1
  iapply h2; iexact H2

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start xHeld xAt
  isplitl
  · isplitl [HG]; · iexact HG
    isplitl [Hlev]; · iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch ctxAny ctxPts
  iintro ⟨Hs, -, Hr⟩
  isplitl [Hs] <;> iassumption

def held (c : Dev nD) : sProp 𝕄 := iprop(unscopedSems0 c ∗ xHeld m c)

theorem phi1_exit (c : Dev nD) :
    (dats m 0 c).Φ (Fin.last cfg0.N) ⊢ iprop(held m c ∗ Pipeline.ownSems0 osem c ∗ Pipeline.scopedRest cfg0.spec c) := by
  rw [show (dats m 0 c).Φ (Fin.last cfg0.N) = Φ₁ m c from rfl, scopedRest0_eq]
  unfold Φ₁ held scratch ctxAny ctxPts
  iintro ⟨Hz, H56, Hx, Hr⟩
  ihave Hs := (Entails.of_eq (sems0_eq (F := F) c).symm) $$ [Hz H56]
  · isplitl [Hz] <;> iassumption
  icases Hs with ⟨Ho, Hu⟩
  isplitl [Hu Hx]
  · isplitl [Hu] <;> iassumption
  isplitl [Ho] <;> iassumption

theorem stage_none : ∀ (w : Fin 5) (s : Fin (cfg0.win w).nbuf) (k : Fin 17), csem k ≠ .dma ((cfg0.win w).sem s) := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_none c _ (stage_none w s) (debts c)
    · exact mayWait_none c _ (stage_none w s) []

/-! ## The run -/

def finalA (c : Dev nD) (w : Fin cfg0.W) : Buf (Elt F) ((cfg0.win w).arr.view.loc (c : Thread nD τ)) := (dats m 0 c).arrAt w cfg0.N

theorem held_read (c : Dev nD) (s' : Phys nD τ sig (Elt F)) :
    iprop(held m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') := by
  unfold held xHeld xAt
  iintro ⟨⟨Hu, Hx⟩, -, HSI⟩
  imod (Pipeline.unscopedSems0_read (X := unscopedSems0 c) (c := c) fupd_intro s') $$ [Hu HSI] with ⟨%h1, HSI⟩
  · isplitl [Hu] <;> iassumption
  ihave H := (Idealize.ShloMosaic.pointsTo_read_all ({c} : Finset (Dev nD)) (fun c => (c : Thread nD τ).loc main_arg0)
    (fun c => m ((c : Thread nD τ).loc main_arg0)) s') $$ [Hx HSI]
  · rw [bigSep_singleton]; isplitl [Hx] <;> iassumption
  icases H with ⟨%h2, HSI⟩
  imodintro
  isplitr
  · ipureintro; exact ⟨h1, h2 c (Finset.mem_singleton_self c)⟩
  iexact HSI

/-- From any memory with zero counters, for any float values, every execution ends, with the windows' arrays at the computed contents, the rows of x as
    they were, and every semaphore at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_ring (F := F) _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := held m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := held_read m)
    (hQ := fun _ h hs => ⟨fun c => ⟨fun w => (h c).1 w, (h c).2.2.2⟩, sem_eq_zero hs fun c => (h c).2.2.1⟩)

end Launch
end Cert.KProof
end
-- ==== Proof.Frames.lean ====
/-
The frames of the two kernel programs, from the one run over any float values; the reference's, from its operations.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.KProof

open Idealize.ShloMosaic Idealize.ShloMosaic.TcCoe Idealize.SL.Sem
open Cert.KernelIdeal Cert.KernelIdeal.Gen

variable {F : FTy → Type} [FloatOps F]

/-- A window that is only read holds at the end what it held at the start. -/
theorem final_in (m : (ℓ : Loc nD τ sig) → Buf (Elt F) ℓ) (c : Dev nD) (w : Fin cfg0.W) (h : (cfg0.win w).isOut = false) :
    finalA m c w = m ((cfg0.win w).arr.view.loc (c : Thread nD τ)) :=
  (dats m 0 c).arrAt_in w h _

/-- The run's post with the arguments read off: each argument unchanged, the result window's array as computed, every semaphore zero. -/
theorem run_args (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_v1) = finalA m c 4
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c => ⟨(h.1 c).1 4, (h.1 c).2, ((h.1 c).1 0).trans (final_in m c 0 rfl), ((h.1 c).1 1).trans (final_in m c 1 rfl),
    ((h.1 c).1 2).trans (final_in m c 2 rfl), ((h.1 c).1 3).trans (final_in m c 3 rfl)⟩, h.2⟩) (run_main m ρ)

/-- The frame over any float values: the arguments unchanged, every semaphore zero. -/
theorem frame_any (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c => (h.1 c).2, h.2⟩) (run_args m ρ)

theorem frame_ideal : Cert.quiescent_KernelIdeal (hKernelIdeal := Cert.KernelIdeal.Gen.facts) :=
  fun m ρ _ => frame_any (F := Ideal) m ρ

section Text
attribute [local instance] Cert.Kernel.Gen.facts

/-- The kernel as printed and the kernel as read at the ideal instance are one text: the body, -/
theorem body_text : @Kernel.cc0__body F _ _ = @KernelIdeal.cc0__body F _ _ := rfl
/-- the body table -/
theorem defs₀_text : @Kernel.defs₀ F _ _ = @KernelIdeal.defs₀ F _ _ := by
  unfold Kernel.defs₀ KernelIdeal.defs₀
  refine congrArg Defs.onTc (funext fun ℓ => funext fun p => ?_)
  rw [body_text]
  match ℓ, p with
  | ⟨0, _⟩, (t, s) => rfl
/-- and the table of the whole program. -/
theorem defs_text : @Kernel.defs F _ _ = @KernelIdeal.defs F _ _ := by
  unfold Kernel.defs KernelIdeal.defs
  rw [defs₀_text]; rfl

theorem frame_kernel : Cert.quiescent_Kernel (hKernel := Cert.Kernel.Gen.facts) := by
  intro m ρ _
  have h := frame_any (F := Bits) m ρ
  rw [defs_text]
  exact h
end Text

theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run (F := Ideal) m ρ)

end Cert.KProof
end
-- ==== Proof.Equation.lean ====
/-
The mathematics between the two programs, with no program in it: sums of extended reals, and the softmax of a row of scores with some
of them left out, once with the greatest score subtracted and the weights divided before the sum, once without either.
-/
module

public import Idealize.ShloMosaic.PureOps.Ideal
public import Idealize.ShloMosaic.PureOps.Ideal.Laws

@[expose] public section

noncomputable section

namespace Cert.KProof

open Idealize.ShloMosaic

/-! ## Sums -/

/-- An extended real that is a number. -/
def IsReal (x : EReal) : Prop := ∃ r : ℝ, x = (r : EReal)

theorem isReal_mul {x y : EReal} : IsReal x → IsReal y → IsReal (x * y) := by
  rintro ⟨a, rfl⟩ ⟨b, rfl⟩; exact ⟨a * b, (EReal.coe_mul a b).symm⟩
theorem isReal_add {x y : EReal} : IsReal x → IsReal y → IsReal (x + y) := by
  rintro ⟨a, rfl⟩ ⟨b, rfl⟩; exact ⟨a + b, (EReal.coe_add a b).symm⟩

theorem isReal_sum {ι : Type} (s : Finset ι) (f : ι → EReal) (h : ∀ i, IsReal (f i)) : IsReal (∑ i ∈ s, f i) := by
  classical
  induction s using Finset.induction_on with
  | empty => exact ⟨0, by rw [Finset.sum_empty]; rfl⟩
  | insert a s ha ih => rw [Finset.sum_insert ha]; exact isReal_add (h a) ih

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- A number that is not negative goes into a sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hc) (EReal.coe_ne_top c) _ _

/-- A sum whose terms are zero from `n` on is the sum of the first `n`. -/
theorem sum_prefix {N n : ℕ} (h : n ≤ N) (f : Fin N → EReal) (hz : ∀ j : Fin N, n ≤ j.val → f j = 0) :
    ∑ j, f j = ∑ i : Fin n, f ⟨i.val, i.isLt.trans_le h⟩ := by
  obtain ⟨d, rfl⟩ := Nat.exists_eq_add_of_le h
  rw [Fin.sum_univ_add]
  have : ∑ i : Fin d, f (Fin.natAdd n i) = 0 := Finset.sum_eq_zero fun i _ => hz _ (Nat.le_add_right n i.val)
  rw [this, add_zero]
  rfl

/-- The sum of the first `a + b` terms, the last `b` of them first. -/
theorem sum_two {N a b : ℕ} (h : a + b ≤ N) (f : Fin N → EReal) (hz : ∀ j : Fin N, a + b ≤ j.val → f j = 0) :
    (∑ i : Fin b, f ⟨a + i.val, (Nat.add_lt_add_left i.isLt a).trans_le h⟩) + (∑ i : Fin a, f ⟨i.val, i.isLt.trans_le ((Nat.le_add_right a b).trans h)⟩) = ∑ j, f j := by
  rw [sum_prefix h f hz, Fin.sum_univ_add, add_comm]
  rfl

/-! ## The two forms of the softmax -/

section Softmax
variable {N : ℕ} (p : Fin N → Prop) [DecidablePred p] (s : Fin N → EReal)

/-- A row's scores with those left out at minus infinity. -/
def left (j : Fin N) : EReal := if p j then s j else ⊥
/-- The greatest of them. -/
def top : EReal := Finset.univ.fold max ⊥ (left p s)
/-- The weights before they are divided by their sum. -/
def raised (j : Fin N) : EReal := Ideal.exp (left p s j - top p s)
/-- The exponentials of the scores not left out. -/
def plain (j : Fin N) : EReal := if p j then Ideal.exp (s j) else 0

variable (hs : ∀ j, p j → IsReal (s j)) (j0 : Fin N) (h0 : p j0)
include hs

theorem top_cases : ∀ t : Finset (Fin N), t.fold max ⊥ (left p s) = ⊥ ∨ IsReal (t.fold max ⊥ (left p s)) := by
  classical
  intro t
  induction t using Finset.induction_on with
  | empty => exact Or.inl (by rw [Finset.fold_empty])
  | insert a t ha ih =>
    rw [Finset.fold_insert ha]
    have hl : left p s a = ⊥ ∨ IsReal (left p s a) := by
      unfold left; split
      · exact Or.inr (hs a ‹_›)
      · exact Or.inl rfl
    rcases max_choice (left p s a) (t.fold max ⊥ (left p s)) with h | h <;> rw [h]
    · exact hl
    · exact ih

include h0

theorem top_real : IsReal (top p s) := by
  rcases top_cases p s hs Finset.univ with h | h
  · exfalso
    have h1 : left p s j0 ≤ Finset.univ.fold max ⊥ (left p s) := Finset.le_fold_max _ |>.mpr (Or.inr ⟨j0, Finset.mem_univ _, le_refl _⟩)
    rw [h, le_bot_iff] at h1
    obtain ⟨r, hr⟩ := hs j0 h0
    unfold left at h1
    rw [if_pos h0, hr] at h1
    exact EReal.coe_ne_bot r h1
  · exact h

/-- The reference's row and the kernel's are one. -/
theorem softmax_eq (v : Fin N → EReal) :
    ∑ j, v j * Ideal.div (raised p s j) (∑ i, raised p s i) = Ideal.div (∑ j, plain p s j * v j) (∑ j, plain p s j) := by
  classical
  obtain ⟨M, hM⟩ := top_real p s hs j0 h0
  have hr : ∀ j, ∃ r : ℝ, p j → s j = r := fun j => by
    by_cases h : p j
    · obtain ⟨r, hr⟩ := hs j h; exact ⟨r, fun _ => hr⟩
    · exact ⟨0, fun h' => absurd h' h⟩
  choose r hr using hr
  let q : Fin N → ℝ := fun j => if p j then Real.exp (r j) else 0
  have hq : ∀ j, 0 ≤ q j := fun j => by
    by_cases h : p j
    · simp only [q, if_pos h]; exact (Real.exp_pos _).le
    · simp only [q, if_neg h]; exact le_refl _
  have hplain : ∀ j, plain p s j = (q j : EReal) := fun j => by
    unfold plain
    by_cases h : p j
    · simp only [q, if_pos h, hr j h]; rfl
    · simp only [q, if_neg h]; rfl
  have hraised : ∀ j, raised p s j = ((q j * Real.exp (-M) : ℝ) : EReal) := fun j => by
    unfold raised left
    by_cases h : p j
    · simp only [q, if_pos h, hr j h, hM]
      rw [← EReal.coe_sub, ← Real.exp_add]
      exact congrArg (fun x : ℝ => ((Real.exp x : ℝ) : EReal)) (sub_eq_add_neg _ _)
    · simp only [q, if_neg h, EReal.bot_sub, zero_mul]; rfl
  have hP : 0 < ∑ j, q j := Finset.sum_pos' (fun j _ => hq j) ⟨j0, Finset.mem_univ _, by simp only [q, if_pos h0]; exact Real.exp_pos _⟩
  have hE : 0 < Real.exp (-M) := Real.exp_pos _
  have hdiv : ∀ (x : EReal) (y : ℝ), 0 < y → Ideal.div x (y : EReal) = x * ((y⁻¹ : ℝ) : EReal) := fun x y hy => by
    unfold Ideal.div
    rw [if_neg (by rw [EReal.coe_eq_zero]; exact hy.ne'), EReal.coe_inv]
  simp only [hraised, hplain]
  rw [← coe_sum, ← coe_sum, ← Finset.sum_mul, hdiv _ _ hP, sum_mul_coe _ _ _ (inv_nonneg.mpr hP.le)]
  refine Finset.sum_congr rfl fun j _ => ?_
  rw [hdiv _ _ (mul_pos hP hE), ← EReal.coe_mul]
  have : q j * Real.exp (-M) * ((∑ i, q i) * Real.exp (-M))⁻¹ = q j * (∑ i, q i)⁻¹ := by
    field_simp
  rw [this, EReal.coe_mul, mul_left_comm, ← mul_assoc]

end Softmax

end Cert.KProof
end
-- ==== Proof.Spec.lean ====
/-
What both programs compute, over the extended reals: the queries, the scores, the context of each row and head, and its projection,
by coordinates; and which keys a query sees, as both programs' words say it.
-/
module

public import proofs.«01_k».proof.Proof.Equation
public import Idealize.ShloMosaic.Lib.Pointwise
public import Idealize.ShloMosaic.Lib.WordCmp
public import Idealize.ShloMosaic.Lib.Routing.Words
public import Idealize.ShloMosaic.Lib.Routing.BitFacts

@[expose] public section

noncomputable section

namespace Cert.KProof

open Idealize.ShloMosaic

/-! ## The values, by coordinates -/

/-- Element `d` of head `h`. -/
def col (h : Fin 8) (d : Fin 128) : Fin 1024 := ⟨h.val * 128 + d.val, by have := h.isLt; have := d.isLt; omega⟩
/-- The factor of the scores. -/
def scale : EReal := Ideal.ofBits .f32 0x3DB504F3#32
/-- A query sees a key of its own block of 64 and of those before it. -/
abbrev Seen {N : ℕ} (i : Fin 2048) (j : Fin N) : Prop := j.val / 64 ≤ i.val / 64

section
variable (x : FVec Ideal ⟨2, ![2048, 1024]⟩ .f32) (wq : FVec Ideal ⟨2, ![1024, 1024]⟩ .f32) {N : ℕ} (k v : FVec Ideal ⟨2, ![N, 1024]⟩ .f32)

def query (i : Fin 2048) (n : Fin 1024) : EReal := ∑ a : Fin 1024, x (ix2 i a) * wq (ix2 a n)
def score (i : Fin 2048) (h : Fin 8) (j : Fin N) : EReal := (∑ d : Fin 128, query x wq i (col h d) * k (ix2 j (col h d))) * scale
def ctxSpec (i : Fin 2048) (h : Fin 8) (d : Fin 128) : EReal :=
  Ideal.div (∑ j : Fin N, plain (Seen i) (score x wq k i h) j * v (ix2 j (col h d))) (∑ j : Fin N, plain (Seen i) (score x wq k i h) j)
def outSpec (wo : FVec Ideal ⟨2, ![1024, 1024]⟩ .f32) (i : Fin 2048) (n : Fin 1024) : EReal :=
  ∑ a : Fin 1024, ctxSpec x wq k v i ⟨a.val / 128, by have := a.isLt; omega⟩ ⟨a.val % 128, Nat.mod_lt _ (by decide)⟩ * wo (ix2 a n)

end

theorem col_div_mod (a : Fin 1024) : col ⟨a.val / 128, by have := a.isLt; omega⟩ ⟨a.val % 128, Nat.mod_lt _ (by decide)⟩ = a :=
  Fin.ext (by show a.val / 128 * 128 + a.val % 128 = a.val; omega)

/-- Only the first 2048 keys are seen by any query: the context is that of those alone. -/
theorem outSpec_prefix {N : ℕ} (hN : 2048 ≤ N) (x : FVec Ideal ⟨2, ![2048, 1024]⟩ .f32) (wq : FVec Ideal ⟨2, ![1024, 1024]⟩ .f32)
    (k v : FVec Ideal ⟨2, ![N, 1024]⟩ .f32) (k' v' : FVec Ideal ⟨2, ![2048, 1024]⟩ .f32)
    (hk : ∀ (j : Fin 2048) a, k' (ix2 j a) = k (ix2 ⟨j.val, j.isLt.trans_le hN⟩ a)) (hv : ∀ (j : Fin 2048) a, v' (ix2 j a) = v (ix2 ⟨j.val, j.isLt.trans_le hN⟩ a))
    (wo : FVec Ideal ⟨2, ![1024, 1024]⟩ .f32) (i : Fin 2048) (n : Fin 1024) :
    outSpec x wq k v wo i n = outSpec x wq k' v' wo i n := by
  unfold outSpec
  refine Finset.sum_congr rfl fun a _ => congrArg (· * wo (ix2 a n)) ?_
  generalize (⟨a.val / 128, by have := a.isLt; omega⟩ : Fin 8) = h
  generalize (⟨a.val % 128, Nat.mod_lt _ (by decide)⟩ : Fin 128) = d
  have hz : ∀ j : Fin N, 2048 ≤ j.val → plain (Seen i) (score x wq k i h) j = 0 := fun j hj => by
    unfold plain
    exact if_neg (by have := i.isLt; unfold Seen; omega)
  have hp : ∀ j : Fin 2048, plain (Seen i) (score x wq k i h) ⟨j.val, j.isLt.trans_le hN⟩ = plain (Seen i) (score x wq k' i h) j := fun j => by
    unfold plain score
    simp only [hk]
  unfold ctxSpec
  rw [sum_prefix hN _ hz, sum_prefix hN _ (fun j hj => by rw [hz j hj, zero_mul])]
  simp only [hp, hv]

/-- Within its tile a query sees the first keys whole and the last 512 by the mask. -/
theorem tile_sum (a : ℕ) (ha : a + 512 ≤ 2048) (h64 : 64 ∣ a) (i : Fin 512) (s w : Fin 2048 → EReal) (mk : Fin 512 → EReal)
    (hmk : ∀ b, mk b = if b.val / 64 ≤ i.val / 64 then 1 else 0) :
    (∑ b : Fin 512, Ideal.exp (s ⟨a + b.val, (Nat.add_lt_add_left b.isLt a).trans_le ha⟩) * mk b * w ⟨a + b.val, (Nat.add_lt_add_left b.isLt a).trans_le ha⟩)
      + (∑ j : Fin a, Ideal.exp (s ⟨j.val, j.isLt.trans_le ((Nat.le_add_right a 512).trans ha)⟩) * w ⟨j.val, j.isLt.trans_le ((Nat.le_add_right a 512).trans ha)⟩)
      = ∑ j : Fin 2048, plain (Seen ⟨a + i.val, (Nat.add_lt_add_left i.isLt a).trans_le ha⟩) s j * w j := by
  obtain ⟨c, rfl⟩ := h64
  have hi := i.isLt
  rw [← sum_two ha]
  · congr 1
    · refine Finset.sum_congr rfl fun b _ => congrArg (· * _) ?_
      rw [hmk]
      unfold plain
      by_cases h : b.val / 64 ≤ i.val / 64
      · rw [if_pos h, mul_one, if_pos (by show (64 * c + b.val) / 64 ≤ (64 * c + i.val) / 64; omega)]
      · rw [if_neg h, mul_zero, if_neg (by show ¬ (64 * c + b.val) / 64 ≤ (64 * c + i.val) / 64; omega)]
    · refine Finset.sum_congr rfl fun j _ => congrArg (· * _) ?_
      have hj := j.isLt
      unfold plain
      rw [if_pos (by show j.val / 64 ≤ (64 * c + i.val) / 64; omega)]
  · intro j hj
    unfold plain
    rw [if_neg (by show ¬ j.val / 64 ≤ (64 * c + i.val) / 64; omega), zero_mul]

/-! ## The words -/

/-- A quotient by 64 rounded down, as both programs write it: `b` says whether the signs differ, which they do not. -/
theorem floor_word (u : ArithUnit) (n : ℕ) (hn : n < 2 ^ 31) (b : BitVec 1) (hb : n ≠ 0 → b = 0#1) :
    Scalar.select (IntOp.andi b (IntOp.cmpi .ne (IntOp.remsi u (BitVec.ofNat 32 n) 64#32) 0#32)) (IntOp.subi (IntOp.divsi u (BitVec.ofNat 32 n) 64#32) 1#32)
      (IntOp.divsi u (BitVec.ofNat 32 n) 64#32) = BitVec.ofNat 32 (n / 64) := by
  rw [Routing.remsi_word u hn (by decide : 0 < 64) (by decide), Routing.divsi_word u hn (by decide : 0 < 64) (by decide)]
  rcases Nat.eq_zero_or_pos n with rfl | h
  · have : IntOp.cmpi .ne (BitVec.ofNat 32 (0 % 64)) 0#32 = 0#1 := by decide
    rw [this]
    show Scalar.select (b &&& 0#1) _ _ = _
    rw [BitVec.and_zero]; rfl
  · rw [hb (by omega)]
    show Scalar.select (0#1 &&& _) _ _ = _
    rw [BitVec.zero_and]; rfl

theorem sle_word (i j : ℕ) (hi : i < 2 ^ 31) (hj : j < 2 ^ 31) :
    IntOp.cmpi .sle (BitVec.ofNat 32 (j / 64)) (BitVec.ofNat 32 (i / 64)) = BitVec.ofBool (decide (j / 64 ≤ i / 64)) :=
  Idealize.ShloMosaic.WordCmp.cmpi_sle_ofNat (w := 32) (by show _ < 2 ^ 31; omega) (by show _ < 2 ^ 31; omega)

end Cert.KProof
end
-- ==== Proof.HeadValue.lean ====
/-
The kernel's result by coordinates: what `outSpec` says, whatever the operands.
-/
module

public import proofs.«01_k».proof.Proof.Attn
public import proofs.«01_k».proof.Proof.Spec

@[expose] public section

set_option maxRecDepth 16384
noncomputable section

namespace Cert.KProof

open Cert.KernelIdeal Cert.KernelIdeal.Gen
open Idealize.ShloMosaic

/-! ## The mask -/

/-- The two signs a rounded-down quotient compares, of numbers that are not zero. -/
theorem kernel_signs (n : ℕ) (hn : n < 2 ^ 31) (h : n ≠ 0) :
    IntOp.cmpi .ne (IntOp.subi (BitVec.setWidth 32 (IntOp.cmpi .sgt (BitVec.ofNat 32 n) 0#32)) (BitVec.setWidth 32 (IntOp.cmpi .slt (BitVec.ofNat 32 n) 0#32)))
      (Scalar.subi (Scalar.extui (Scalar.cmpi .sgt 64#32 0#32)) (Scalar.extui (Scalar.cmpi .slt 64#32 0#32))) = 0#1 := by
  rw [WordCmp.cmpi_sgt_ofNat (w := 32) (by show _ < 2 ^ 31; omega) (by decide), WordCmp.cmpi_slt_ofNat (w := 32) (by show _ < 2 ^ 31; omega) (by decide),
    decide_eq_true (by omega : 0 < n), decide_eq_false (by omega : ¬ n < 0)]
  decide

theorem maskVal_apply (i n : Fin 512) : maskVal (F := Ideal) (ix2 i n) = if n.val / 64 ≤ i.val / 64 then 1 else 0 := by
  have hi := i.isLt
  have hn := n.isLt
  unfold maskVal
  pointwise [k0_pay1, k0_pay2, k0_pay3, k0_pay4]
  have e := (congrArg₂ (IntOp.cmpi .sle) (floor_word .vector n.val (by omega) _ (kernel_signs _ (by omega))) (floor_word .vector i.val (by omega) _ (kernel_signs _ (by omega)))).trans
    (sle_word i.val n.val (by omega) (by omega))
  refine (congrArg (fun b : BitVec 1 => FloatOps.sitofp (F := Ideal) FTy.f32 (BitVec.setWidth 32 b)) e).trans ?_
  by_cases h : n.val / 64 ≤ i.val / 64
  · rw [if_pos h, decide_eq_true h]
    show (((1#32 : BitVec 32).toInt : ℝ) : EReal) = 1
    rw [show (1#32 : BitVec 32).toInt = 1 by decide]
    simp
  · rw [if_neg h, decide_eq_false h]
    show (((0#32 : BitVec 32).toInt : ℝ) : EReal) = 0
    rw [show (0#32 : BitVec 32).toInt = 0 by decide]
    simp

/-! ## The context -/

section
variable (x : XBuf Ideal) (wq : WqBuf Ideal) (k : KeyBuf Ideal) (v : ValBuf Ideal)

/-- Row `i` of tile `t`. -/
def trow (t : Fin 4) (i : Fin 512) : Fin 2048 := ⟨512 * t.val + i.val, by have := t.isLt; have := i.isLt; omega⟩

theorem xRows_apply (t : Fin 4) (i : Fin 512) (a : Fin 1024) : xRows x t (ix3 0 i a) = x (ix2 (trow t i) a) := by
  unfold xRows
  have e : (Shape.reshapeEquiv squeezes_S1x512x1024_S512x1024.numel_eq).symm (ix3 0 i a) = ix2 i a := by
    rw [Equiv.symm_apply_eq]
    symm
    pointwise
  rw [e]
  refine congrArg x (funext fun b => Fin.ext ?_)
  unfold rowRect
  fin_cases b
  · show 512 * t.val + 1 * i.val = 512 * t.val + i.val; omega
  · show 0 + 1 * a.val = a.val; omega

theorem wqVal_apply (a n : Fin 1024) : wqVal wq (ix2 a n) = wq (ix2 a n) := by
  unfold wqVal
  rw [View.readAt_eq_ld]
  pointwise
  rfl

theorem qTile_apply (t : Fin 4) (i : Fin 512) (n : Fin 1024) : qTile x wq t (ix2 i n) = query x wq (trow t i) n := by
  have e : ∀ t, ∑ a : Fin 1024, xRows x t (ix3 0 i a) * wqVal wq (ix2 a n) = query x wq (trow t i) n := fun t => by
    simp only [xRows_apply, wqVal_apply]; rfl
  match t with
  | 0 => refine Eq.trans ?_ (e 0); show k0_pay6 (k0_pay5 (xRows x 0) (wqVal wq)) (ix2 i n) = _; pointwise [k0_pay5, k0_pay6]
  | 1 => refine Eq.trans ?_ (e 1); show k0_pay22 (k0_pay21 (xRows x 1) (wqVal wq)) (ix2 i n) = _; pointwise [k0_pay21, k0_pay22]
  | 2 => refine Eq.trans ?_ (e 2); show k0_pay45 (xRows x 2) (wqVal wq) (ix2 i n) = _; pointwise [k0_pay45]
  | 3 => refine Eq.trans ?_ (e 3); show k0_pay78 (xRows x 3) (wqVal wq) (ix2 i n) = _; pointwise [k0_pay78]

theorem qHead_apply (t : Fin 4) (h : Fin 8) (i : Fin 512) (d : Fin 128) : qHead x wq t h (ix2 i d) = query x wq (trow t i) (col h d) := by
  rw [← qTile_apply]
  unfold qHead
  refine congrArg (qTile x wq t) (funext fun b => Fin.ext ?_)
  unfold colRect
  fin_cases b
  · show 0 + 1 * i.val = i.val; omega
  · show 128 * h.val + 1 * d.val = h.val * 128 + d.val; omega

theorem keyPart_apply (n o : ℕ) (h : Fin 8) (hn : o + n ≤ 2048) (j : Fin n) (d : Fin 128) :
    keyPart k n o h hn (ix2 j d) = k (ix2 ⟨o + j.val, (Nat.add_lt_add_left j.isLt o).trans_le hn⟩ (col h d)) := by
  refine congrArg k (funext fun b => Fin.ext ?_)
  fin_cases b
  · show o + 1 * j.val = o + j.val; omega
  · show 128 * h.val + 1 * d.val = h.val * 128 + d.val; omega

theorem valPart_apply (n o : ℕ) (h : Fin 8) (hn : o + n ≤ 2048) (j : Fin n) (d : Fin 128) :
    valPart v n o h hn (ix2 j d) = v (ix2 ⟨o + j.val, (Nat.add_lt_add_left j.isLt o).trans_le hn⟩ (col h d)) := by
  refine congrArg v (funext fun b => Fin.ext ?_)
  fin_cases b
  · show o + 1 * j.val = o + j.val; omega
  · show 128 * h.val + 1 * d.val = h.val * 128 + d.val; omega

/-- A tile's head: the sums of what is seen of the last 512 keys and of those before them. -/
theorem tile_ctx (t : Fin 4) (i : Fin 512) (h : Fin 8) (d : Fin 128) (o : ℕ) (ho : o = 512 * t.val) (hn : o + 512 ≤ 2048) :
    Ideal.div
      ((∑ b : Fin 512, Ideal.exp (score x wq k (trow t i) h ⟨o + b.val, (Nat.add_lt_add_left b.isLt o).trans_le hn⟩) * maskVal (F := Ideal) (ix2 i b)
          * v (ix2 ⟨o + b.val, (Nat.add_lt_add_left b.isLt o).trans_le hn⟩ (col h d)))
        + ∑ j : Fin o, Ideal.exp (score x wq k (trow t i) h ⟨j.val, j.isLt.trans_le ((Nat.le_add_right o 512).trans hn)⟩)
          * v (ix2 ⟨j.val, j.isLt.trans_le ((Nat.le_add_right o 512).trans hn)⟩ (col h d)))
      ((∑ b : Fin 512, Ideal.exp (score x wq k (trow t i) h ⟨o + b.val, (Nat.add_lt_add_left b.isLt o).trans_le hn⟩) * maskVal (F := Ideal) (ix2 i b))
        + ∑ j : Fin o, Ideal.exp (score x wq k (trow t i) h ⟨j.val, j.isLt.trans_le ((Nat.le_add_right o 512).trans hn)⟩))
      = ctxSpec x wq k v (trow t i) h d := by
  have h64 : 64 ∣ o := ⟨8 * t.val, by omega⟩
  have hm := fun b => maskVal_apply i b
  have hI : (⟨o + i.val, (Nat.add_lt_add_left i.isLt o).trans_le hn⟩ : Fin 2048) = trow t i := Fin.ext (by show o + i.val = 512 * t.val + i.val; omega)
  have en := tile_sum o hn h64 i (score x wq k (trow t i) h) (fun j => v (ix2 j (col h d))) (fun b => maskVal (F := Ideal) (ix2 i b)) hm
  have ed := tile_sum o hn h64 i (score x wq k (trow t i) h) (fun _ => 1) (fun b => maskVal (F := Ideal) (ix2 i b)) hm
  simp only [mul_one] at ed
  rw [hI] at en ed
  unfold ctxSpec
  exact congrArg₂ Ideal.div en ed

/-- The first tile's payload by coordinates: the scores against its own 512 keys, masked. -/
theorem pay7_apply (q k v : FVec Ideal S512x128 .f32) (c : FVec Ideal S512x512 .f32) (i : Fin 512) (d : Fin 128) :
    k0_pay7 (F := Ideal) q k c v (ix2 i d) = Ideal.div
      (∑ b, Ideal.exp ((∑ a, q (ix2 i a) * k (ix2 b a)) * scale) * c (ix2 i b) * v (ix2 b d))
      (∑ b, Ideal.exp ((∑ a, q (ix2 i a) * k (ix2 b a)) * scale) * c (ix2 i b)) := by
  unfold scale
  pointwise [k0_pay7]
/-- The second tile's: also the scores against the 512 keys before. -/
theorem pay23_apply (q v : FVec Ideal S512x128 .f32) (k : FVec Ideal S1024x128 .f32) (w : FVec Ideal S512x128 .f32) (c : FVec Ideal S512x512 .f32)
    (i : Fin 512) (d : Fin 128) :
    k0_pay23 (F := Ideal) q k c v w (ix2 i d) = Ideal.div
      ((∑ b : Fin 512, Ideal.exp ((∑ a, q (ix2 i a) * k (ix2 ⟨512 + b.val, by omega⟩ a)) * scale) * c (ix2 i b) * v (ix2 b d))
        + ∑ j : Fin 512, Ideal.exp ((∑ a, q (ix2 i a) * k (ix2 ⟨j.val, by omega⟩ a)) * scale) * w (ix2 j d))
      ((∑ b : Fin 512, Ideal.exp ((∑ a, q (ix2 i a) * k (ix2 ⟨512 + b.val, by omega⟩ a)) * scale) * c (ix2 i b))
        + ∑ j : Fin 512, Ideal.exp ((∑ a, q (ix2 i a) * k (ix2 ⟨j.val, by omega⟩ a)) * scale)) := by
  unfold scale
  pointwise [k0_pay23]
/-- The third tile's: also the scores against the 1024 keys before. -/
theorem pay61_apply (q v : FVec Ideal S512x128 .f32) (k : FVec Ideal S1536x128 .f32) (w : FVec Ideal S1024x128 .f32) (c : FVec Ideal S512x512 .f32)
    (i : Fin 512) (d : Fin 128) :
    k0_pay61 (F := Ideal) q k c v w (ix2 i d) = Ideal.div
      ((∑ b : Fin 512, Ideal.exp ((∑ a, q (ix2 i a) * k (ix2 ⟨1024 + b.val, by omega⟩ a)) * scale) * c (ix2 i b) * v (ix2 b d))
        + ∑ j : Fin 1024, Ideal.exp ((∑ a, q (ix2 i a) * k (ix2 ⟨j.val, by omega⟩ a)) * scale) * w (ix2 j d))
      ((∑ b : Fin 512, Ideal.exp ((∑ a, q (ix2 i a) * k (ix2 ⟨1024 + b.val, by omega⟩ a)) * scale) * c (ix2 i b))
        + ∑ j : Fin 1024, Ideal.exp ((∑ a, q (ix2 i a) * k (ix2 ⟨j.val, by omega⟩ a)) * scale)) := by
  unfold scale
  pointwise [k0_pay61]
/-- The fourth tile's: also the scores against the 1536 keys before. -/
theorem pay79_apply (q v : FVec Ideal S512x128 .f32) (k : FVec Ideal S2048x128 .f32) (w : FVec Ideal S1536x128 .f32) (c : FVec Ideal S512x512 .f32)
    (i : Fin 512) (d : Fin 128) :
    k0_pay79 (F := Ideal) q k c v w (ix2 i d) = Ideal.div
      ((∑ b : Fin 512, Ideal.exp ((∑ a, q (ix2 i a) * k (ix2 ⟨1536 + b.val, by omega⟩ a)) * scale) * c (ix2 i b) * v (ix2 b d))
        + ∑ j : Fin 1536, Ideal.exp ((∑ a, q (ix2 i a) * k (ix2 ⟨j.val, by omega⟩ a)) * scale) * w (ix2 j d))
      ((∑ b : Fin 512, Ideal.exp ((∑ a, q (ix2 i a) * k (ix2 ⟨1536 + b.val, by omega⟩ a)) * scale) * c (ix2 i b))
        + ∑ j : Fin 1536, Ideal.exp ((∑ a, q (ix2 i a) * k (ix2 ⟨j.val, by omega⟩ a)) * scale)) := by
  unfold scale
  pointwise [k0_pay79]
theorem tileHead0 (h : Fin 8) (i : Fin 512) (d : Fin 128) : headVal x wq k v (0, h) (ix2 i d) = ctxSpec x wq k v (trow 0 i) h d := by
  rw [← head0 x wq k v h _ _ _ _ rfl rfl rfl rfl, pay7_apply, ← tile_ctx x wq k v 0 i h d 0 (by decide) (by decide)]
  simp only [qHead_apply, keyPart_apply, valPart_apply, score, Finset.univ_eq_empty, Finset.sum_empty, add_zero]
theorem tileHead1 (h : Fin 8) (i : Fin 512) (d : Fin 128) : headVal x wq k v (1, h) (ix2 i d) = ctxSpec x wq k v (trow 1 i) h d := by
  rw [← head1 x wq k v h _ _ _ _ _ rfl rfl rfl rfl rfl, pay23_apply, ← tile_ctx x wq k v 1 i h d 512 (by decide) (by decide)]
  simp only [qHead_apply, keyPart_apply, valPart_apply, score, zero_add]
theorem tileHead2 (h : Fin 8) (i : Fin 512) (d : Fin 128) : headVal x wq k v (2, h) (ix2 i d) = ctxSpec x wq k v (trow 2 i) h d := by
  rw [← head2 x wq k v h _ _ _ _ _ rfl rfl rfl rfl rfl, pay61_apply, ← tile_ctx x wq k v 2 i h d 1024 (by decide) (by decide)]
  simp only [qHead_apply, keyPart_apply, valPart_apply, score, zero_add]
theorem tileHead3 (h : Fin 8) (i : Fin 512) (d : Fin 128) : headVal x wq k v (3, h) (ix2 i d) = ctxSpec x wq k v (trow 3 i) h d := by
  rw [← head3 x wq k v h _ _ _ _ _ rfl rfl rfl rfl rfl, pay79_apply, ← tile_ctx x wq k v 3 i h d 1536 (by decide) (by decide)]
  simp only [qHead_apply, keyPart_apply, valPart_apply, score, zero_add]

theorem headVal_apply (t : Fin 4) (h : Fin 8) (i : Fin 512) (d : Fin 128) :
    headVal x wq k v (t, h) (ix2 i d) = ctxSpec x wq k v (trow t i) h d :=
  match t with
  | 0 => tileHead0 x wq k v h i d
  | 1 => tileHead1 x wq k v h i d
  | 2 => tileHead2 x wq k v h i d
  | 3 => tileHead3 x wq k v h i d

theorem ctxBuf_apply (i : Fin 2048) (a : Fin 1024) :
    ctxBuf x wq k v (ix2 i a) = ctxSpec x wq k v i ⟨a.val / 128, by have := a.isLt; omega⟩ ⟨a.val % 128, Nat.mod_lt _ (by decide)⟩ := by
  have hi := i.isLt
  have ha := a.isLt
  let t : Fin 4 := ⟨i.val / 512, by omega⟩
  let h : Fin 8 := ⟨a.val / 128, by omega⟩
  have e := ctxBuf_emb x wq k v (t, h) (ix2 ⟨i.val % 512, Nat.mod_lt _ (by decide)⟩ ⟨a.val % 128, Nat.mod_lt _ (by decide)⟩)
  have e1 : (headRect (t, h)).emb (ix2 ⟨i.val % 512, Nat.mod_lt _ (by decide)⟩ ⟨a.val % 128, Nat.mod_lt _ (by decide)⟩) = ix2 i a := by
    unfold headRect
    refine funext fun b => Fin.ext ?_
    fin_cases b
    · show 512 * (i.val / 512) + 1 * (i.val % 512) = i.val; omega
    · show 128 * (a.val / 128) + 1 * (a.val % 128) = a.val; omega
  rw [e1] at e
  refine (e.trans (headVal_apply x wq k v t h _ _)).trans ?_
  have e2 : trow t ⟨i.val % 512, Nat.mod_lt _ (by decide)⟩ = i := Fin.ext (by show 512 * (i.val / 512) + i.val % 512 = i.val; omega)
  rw [e2]

end

/-! ## The projection -/

section
variable (X : FVec Ideal S2048x1024 .bf16) (W : FVec Ideal S1024x1024 .f32)

theorem woVal_apply (a n : Fin 1024) : woVal (F := Ideal) W (ix2 a n) = W (ix2 a n) := by
  refine congrArg W (funext fun b => Fin.ext ?_)
  fin_cases b
  · show 0 + 1 * a.val = a.val; omega
  · show 0 + 1 * n.val = n.val; omega

theorem pay99_apply (u : FVec Ideal S512x1024 .bf16) (w : FVec Ideal S1024x1024 .f32) (i : Fin 512) (n : Fin 1024) :
    k0_pay99 (F := Ideal) u w (ix2 i n) = ∑ a, u (ix2 i a) * w (ix2 a n) := by
  pointwise [k0_pay99]
theorem pay102_apply (u : FVec Ideal S256x1024 .bf16) (w : FVec Ideal S1024x1024 .f32) (i : Fin 256) (n : Fin 1024) :
    k0_pay102 (F := Ideal) u w (ix2 i n) = ∑ a, u (ix2 i a) * w (ix2 a n) := by
  pointwise [k0_pay102]

/-- An entry of a block of rows of the result, wherever the block begins. -/
theorem row_emb (o n : ℕ) (inb) (i : Fin n) (a : Fin 1024) (h : o + i.val < 2048) :
    (Rect.unit (s := S2048x1024) ![o, 0] ![n, 1024] inb).emb (ix2 i a) = ix2 ⟨o + i.val, h⟩ a :=
  funext fun b => Fin.ext (by
    fin_cases b
    · show o + 1 * i.val = o + i.val; omega
    · show 0 + 1 * a.val = a.val; omega)

/-- The result's entry is the context's row times the output weights' column. -/
def rowCol (I : Fin 2048) (n : Fin 1024) : EReal := ∑ a : Fin 1024, X (ix2 I a) * W (ix2 a n)

theorem long_apply (o : ℕ) (inb)
    (u : FVec Ideal S512x1024 .bf16) (hu : ∀ (i : Fin 512) (a : Fin 1024), u (ix2 i a) = X ((Rect.unit (s := S2048x1024) ![o, 0] ![512, 1024] inb).emb (ix2 i a)))
    (i : Fin 512) (n : Fin 1024) (h : o + i.val < 2048) : k0_pay99 (F := Ideal) u (woVal (F := Ideal) W) (ix2 i n) = rowCol X W ⟨o + i.val, h⟩ n := by
  rw [pay99_apply]
  unfold rowCol
  exact Finset.sum_congr rfl fun a _ => by rw [hu, row_emb o 512 inb i a h, woVal_apply]
theorem short_apply (o : ℕ) (inb)
    (u : FVec Ideal S256x1024 .bf16) (hu : ∀ (i : Fin 256) (a : Fin 1024), u (ix2 i a) = X ((Rect.unit (s := S2048x1024) ![o, 0] ![256, 1024] inb).emb (ix2 i a)))
    (i : Fin 256) (n : Fin 1024) (h : o + i.val < 2048) : k0_pay102 (F := Ideal) u (woVal (F := Ideal) W) (ix2 i n) = rowCol X W ⟨o + i.val, h⟩ n := by
  rw [pay102_apply]
  unfold rowCol
  exact Finset.sum_congr rfl fun a _ => by rw [hu, row_emb o 256 inb i a h, woVal_apply]

theorem slot_out (s : Fin 5) (n : Fin 1024) (r : ℕ) (hr : r < slotLen s) (h : slotRow s + r < 2048) :
    outBuf (F := Ideal) X W (ix2 ⟨slotRow s + r, h⟩ n) = rowCol X W ⟨slotRow s + r, h⟩ n :=
  match s with
  | 0 => (congrArg (outBuf (F := Ideal) X W) (row_emb 0 512 inb_S2048x1024_S512x1024_0_0 ⟨r, hr⟩ n h).symm).trans ((outBuf_emb (F := Ideal) X W 0 (ix2 ⟨r, hr⟩ n)).trans
      (long_apply X W 0 inb_S2048x1024_S512x1024_0_0 (slotVal (F := Ideal) X 0) (fun _ _ => rfl) ⟨r, hr⟩ n h))
  | 1 => (congrArg (outBuf (F := Ideal) X W) (row_emb 512 512 inb_S2048x1024_S512x1024_512_0 ⟨r, hr⟩ n h).symm).trans ((outBuf_emb (F := Ideal) X W 1 (ix2 ⟨r, hr⟩ n)).trans
      (long_apply X W 512 inb_S2048x1024_S512x1024_512_0 (slotVal (F := Ideal) X 1) (fun _ _ => rfl) ⟨r, hr⟩ n h))
  | 2 => (congrArg (outBuf (F := Ideal) X W) (row_emb 1024 512 inb_S2048x1024_S512x1024_1024_0 ⟨r, hr⟩ n h).symm).trans ((outBuf_emb (F := Ideal) X W 2 (ix2 ⟨r, hr⟩ n)).trans
      (long_apply X W 1024 inb_S2048x1024_S512x1024_1024_0 (slotVal (F := Ideal) X 2) (fun _ _ => rfl) ⟨r, hr⟩ n h))
  | 3 => (congrArg (outBuf (F := Ideal) X W) (row_emb 1536 256 inb_S2048x1024_S256x1024_1536_0 ⟨r, hr⟩ n h).symm).trans ((outBuf_emb (F := Ideal) X W 3 (ix2 ⟨r, hr⟩ n)).trans
      (short_apply X W 1536 inb_S2048x1024_S256x1024_1536_0 (slotVal (F := Ideal) X 3) (fun _ _ => rfl) ⟨r, hr⟩ n h))
  | 4 => (congrArg (outBuf (F := Ideal) X W) (row_emb 1792 256 inb_S2048x1024_S256x1024_1792_0 ⟨r, hr⟩ n h).symm).trans ((outBuf_emb (F := Ideal) X W 4 (ix2 ⟨r, hr⟩ n)).trans
      (short_apply X W 1792 inb_S2048x1024_S256x1024_1792_0 (slotVal (F := Ideal) X 4) (fun _ _ => rfl) ⟨r, hr⟩ n h))

theorem outBuf_apply (I : Fin 2048) (n : Fin 1024) : outBuf (F := Ideal) X W (ix2 I n) = rowCol X W I n := by
  obtain ⟨s, hs⟩ := slot_cover (ix2 I n)
  have hs := (mem_slot s _).mp hs
  have h0 : slotRow s ≤ I.val := hs.1
  have h1 : I.val < slotRow s + slotLen s := hs.2
  have e : (⟨slotRow s + (I.val - slotRow s), by have := I.isLt; omega⟩ : Fin 2048) = I := Fin.ext (by show _ + (_ - _) = _; omega)
  have := slot_out X W s n (I.val - slotRow s) (by omega) (by have := I.isLt; omega)
  rwa [e] at this

end

/-- The kernel's result is the specification's. -/
theorem kernel_out (x : FVec Ideal S2048x1024 .f32) (wq wo : FVec Ideal S1024x1024 .f32) (k v : FVec Ideal S2048x1024 .f32) (I : Fin 2048) (n : Fin 1024) :
    outBuf (F := Ideal) (ctxBuf (F := Ideal) x wq k v) wo (ix2 I n) = outSpec x wq k v wo I n := by
  refine (outBuf_apply (ctxBuf (F := Ideal) x wq k v) wo I n).trans ?_
  show rowCol _ _ _ _ = (_ : EReal)
  unfold rowCol outSpec
  refine Finset.sum_congr rfl fun a _ => ?_
  refine congrArg (fun z : EReal => z * wo (ix2 a n)) ?_
  exact ctxBuf_apply x wq k v I a

end Cert.KProof
end
-- ==== Proof.Reference.lean ====
/-
The reference's result, as its steps: the scores, the mask, the softmax of each row, and the projection.
-/
module

public import proofs.«01_k».proof.Proof.Gen.ReferenceIdeal.Run
public import Idealize.ShloMosaic.Lib.Pointwise
public import Idealize.ShloMosaic.Lib.Tactic.CleanTypes

@[expose] public section

set_option maxRecDepth 16384
noncomputable section

namespace Cert.KProof

open Cert.ReferenceIdeal Cert.ReferenceIdeal.Gen
open Idealize.ShloMosaic
/-- Which keys a query sees, as the reference's words. -/
def refMask : IVec S2048x8192 1 :=
  cmpi .sle (broadcastInDim S2048x8192 ![0, 1] bcast_S1x8192_S2048x8192_0_1 (broadcastInDim S1x8192 ![1] bcast_S8192_S1x8192_1 (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))))) (broadcastInDim S2048x8192 ![0, 1] bcast_S2048x1_S2048x8192_0_1 (broadcastInDim S2048x1 ![0] bcast_S2048_S2048x1_0 (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))))

section
variable (x : FVec Ideal S2048x1024 .f32) (wq : FVec Ideal S1024x1024 .f32) (k v : FVec Ideal S8192x1024 .f32) (wo : FVec Ideal S1024x1024 .f32)
/-- The scores, none left out. -/
def refScore : FVec Ideal S1x8x2048x8192 .f32 :=
  mulf (Host.dotGeneral dot_S1x2048x8x128_S1x8192x8x128_S1x8x2048x8192_3_3_1_1_02_02 none (shapeCast _ (Host.dotGeneral dot_S1x2048x1024_S1024x1024_S1x2048x1024_2_0_01_1_n_n none (shapeCast _ x shapeCasts_S2048x1024_S1x2048x1024) wq) shapeCasts_S1x2048x1024_S1x2048x8x128) (shapeCast _ k shapeCasts_S8192x1024_S1x8192x8x128)) (broadcastInDim S1x8x2048x8192 ![] bcast_S_S1x8x2048x8192 (constant S_ .f32 0x3DB504F3#32))
/-- Those left out set to minus infinity. -/
def refLeft (b : IVec S2048x8192 1) (s : FVec Ideal S1x8x2048x8192 .f32) : FVec Ideal S1x8x2048x8192 .f32 :=
  select (broadcastInDim S1x8x2048x8192 ![0, 1, 2, 3] bcast_S1x1x2048x8192_S1x8x2048x8192_0_1_2_3 (broadcastInDim S1x1x2048x8192 ![2, 3] bcast_S2048x8192_S1x1x2048x8192_2_3 b)) s (broadcastInDim S1x8x2048x8192 ![] bcast_S_S1x8x2048x8192 (id (constant S_ .f32 0xFF800000#32)))
/-- The exponentials, the greatest score of the row subtracted. -/
def refRaised (l : FVec Ideal S1x8x2048x8192 .f32) : FVec Ideal S1x8x2048x8192 .f32 :=
  Host.exp (subf l (broadcastInDim S1x8x2048x8192 ![0, 1, 2, 3] bcast_S1x8x2048x1_S1x8x2048x8192_0_1_2_3 (broadcastInDim S1x8x2048x1 ![0, 1, 2] bcast_S1x8x2048_S1x8x2048x1_0_1_2 (Host.reduce FloatOps.maximumf l (constant S_ .f32 0xFF800000#32) reducesTo_S1x8x2048x8192_S1x8x2048_d3 h_S_))))
/-- Which queries see a key at all. -/
def refKeep (b : IVec S2048x8192 1) : IVec S1x1x2048x1 1 :=
  broadcastInDim S1x1x2048x1 ![2] bcast_S2048_S1x1x2048x1_2 (Host.reduce IntOp.ori b (constantI S_ 1 0#1) reducesTo_S2048x8192_S2048_d1 h_S_)
/-- What each weight is divided by. -/
def refDen (b : IVec S2048x8192 1) (e : FVec Ideal S1x8x2048x8192 .f32) : FVec Ideal S1x8x2048x1 .f32 :=
  select (broadcastInDim S1x8x2048x1 ![0, 1, 2, 3] bcast_S1x1x2048x1_S1x8x2048x1_0_1_2_3 (refKeep b))
    (broadcastInDim S1x8x2048x1 ![0, 1, 2] bcast_S1x8x2048_S1x8x2048x1_0_1_2 (Host.reduceAdd e (constant S_ .f32 0x00000000#32) reducesTo_S1x8x2048x8192_S1x8x2048_d3 h_S_))
    (broadcastInDim S1x8x2048x1 ![] bcast_S_S1x8x2048x1 (id (constant S_ .f32 0x3F800000#32)))
/-- The weights. -/
def refWeight (b : IVec S2048x8192 1) (e : FVec Ideal S1x8x2048x8192 .f32) : FVec Ideal S1x8x2048x8192 .f32 :=
  select (broadcastInDim S1x8x2048x8192 ![0, 1, 2, 3] bcast_S1x1x2048x1_S1x8x2048x8192_0_1_2_3 (refKeep b))
    (Host.divf e (broadcastInDim S1x8x2048x8192 ![0, 1, 2, 3] bcast_S1x8x2048x1_S1x8x2048x8192_0_1_2_3 (refDen b e)))
    (broadcastInDim S1x8x2048x8192 ![] bcast_S_S1x8x2048x8192 (id (constant S_ .f32 0x00000000#32)))
/-- The context, projected. -/
def refOut (w : FVec Ideal S1x8x2048x8192 .f32) : FVec Ideal S2048x1024 .f32 :=
  shapeCast _ (Host.dotGeneral dot_S1x2048x1024_S1024x1024_S1x2048x1024_2_0_01_1_n_n none (shapeCast _ (transpose S1x2048x8x128 [0, 3, 1, 2] (Host.dotGeneral dot_S1x8192x8x128_S1x8x2048x8192_S1x8x128x2048_1_3_3_2_02_01 none (shapeCast _ v shapeCasts_S8192x1024_S1x8192x8x128) w) transposes_S1x8x128x2048_S1x2048x8x128_0_3_1_2) shapeCasts_S1x2048x8x128_S1x2048x1024) wo) shapeCasts_S1x2048x1024_S2048x1024

/-- The result is those steps, one after another. -/
theorem ref_eq (m : (ℓ : Loc nD τ sig) → Buf (Elt Ideal) ℓ) (c : Dev nD) :
    Value.res_main_v37 m c
      = refOut (m ((c.tc : Thread nD τ).loc main_arg3)) (m ((c.tc : Thread nD τ).loc main_arg4))
          (refWeight refMask (refRaised (refLeft refMask (refScore (m ((c.tc : Thread nD τ).loc main_arg0)) (m ((c.tc : Thread nD τ).loc main_arg1)) (m ((c.tc : Thread nD τ).loc main_arg2)))))) := rfl

end
end Cert.KProof
end
-- ==== Proof.RefValue.lean ====
/-
The reference's result by coordinates: where the rows of x, the query weights and the keys are numbers, what `outSpec` says.
-/
module

public import proofs.«01_k».proof.Proof.Reference
public import proofs.«01_k».proof.Proof.Spec
public import Idealize.ShloMosaic.Lib.Routing.OpsOrder

@[expose] public section

set_option maxRecDepth 16384
noncomputable section

namespace Cert.KProof

open Cert.ReferenceIdeal Cert.ReferenceIdeal.Gen
open Idealize.ShloMosaic

/-- The two signs a rounded-down quotient compares, of numbers that are not zero. -/
theorem host_signs (n : ℕ) (hn : n < 2 ^ 31) (h : n ≠ 0) :
    IntOp.cmpi .ne (if BitVec.ofNat 32 n = 0 then (0 : BitVec 32) else if (BitVec.ofNat 32 n).msb = true then -1 else 1)
      (if (64#32 : BitVec 32) = 0 then 0 else if (64#32 : BitVec 32).msb = true then -1 else 1) = 0#1 := by
  rw [if_neg (Routing.ofNat32_ne_zero (Nat.pos_of_ne_zero h) (by omega)), Routing.msb_ofNat32 hn]
  decide

theorem refMask_apply (i : Fin 2048) (j : Fin 8192) : refMask (ix2 i j) = BitVec.ofBool (decide (Seen i j)) := by
  have hi := i.isLt
  have hj := j.isLt
  pointwise [refMask, id_eq]
  exact (congrArg₂ (IntOp.cmpi .sle) (floor_word .host j.val (by omega) _ (host_signs _ (by omega))) (floor_word .host i.val (by omega) _ (host_signs _ (by omega)))).trans
    (sle_word _ _ (by omega) (by omega))

section
variable (x : FVec Ideal S2048x1024 .f32) (wq : FVec Ideal S1024x1024 .f32) (k v : FVec Ideal S8192x1024 .f32) (wo : FVec Ideal S1024x1024 .f32)

theorem refScore_apply (h : Fin 8) (i : Fin 2048) (j : Fin 8192) : refScore x wq k (ix4 0 h i j) = score x wq k i h j := by
  pointwise [refScore]
  rfl

theorem bits_bot : Ideal.ofBits .f32 0xFF800000#32 = ⊥ := by simp [Ideal.ofBits, Ideal.ieee]

theorem refLeft_apply (s : FVec Ideal S1x8x2048x8192 .f32) (h : Fin 8) (i : Fin 2048) (j : Fin 8192) :
    refLeft refMask s (ix4 0 h i j) = left (Seen i) (fun j => s (ix4 0 h i j)) j := by
  pointwise [refLeft, id_eq]
  rw [refMask_apply, bits_bot]
  unfold left
  by_cases hs : Seen i j
  · rw [if_pos hs, decide_eq_true hs]; rfl
  · rw [if_neg hs, decide_eq_false hs]; rfl

theorem refRaised_apply (l : FVec Ideal S1x8x2048x8192 .f32) (h : Fin 8) (i : Fin 2048) (j : Fin 8192) :
    refRaised l (ix4 0 h i j) = Ideal.exp (l (ix4 0 h i j) - Finset.univ.fold max ⊥ (fun y => l (ix4 0 h i y))) := by
  pointwise [refRaised]
  rw [bits_bot]

theorem refKeep_apply (i : Fin 2048) : refKeep refMask (ix4 0 0 i 0) = 1#1 := by
  pointwise [refKeep]
  refine (Routing.fold_ori _ _).mpr ⟨0, Finset.mem_univ _, ?_⟩
  rw [refMask_apply, decide_eq_true (by show 0 / 64 ≤ i.val / 64; omega)]
  rfl

theorem refDen_apply (b : IVec S2048x8192 1) (e : FVec Ideal S1x8x2048x8192 .f32) (h : Fin 8) (i : Fin 2048) :
    refDen b e (ix4 0 h i 0) = Scalar.select (refKeep b (ix4 0 0 i 0)) (∑ y, e (ix4 0 h i y)) 1 := by
  pointwise [refDen, id_eq]

theorem keep_apply (b : IVec S1x1x2048x1 1) (h : Fin 8) (i : Fin 2048) (j : Fin 8192) :
    broadcastInDim S1x8x2048x8192 ![0, 1, 2, 3] bcast_S1x1x2048x1_S1x8x2048x8192_0_1_2_3 b (ix4 0 h i j) = b (ix4 0 0 i 0) := by
  pointwise
theorem den_apply (b : FVec Ideal S1x8x2048x1 .f32) (h : Fin 8) (i : Fin 2048) (j : Fin 8192) :
    broadcastInDim S1x8x2048x8192 ![0, 1, 2, 3] bcast_S1x8x2048x1_S1x8x2048x8192_0_1_2_3 b (ix4 0 h i j) = b (ix4 0 h i 0) := by
  pointwise
theorem zero_apply (h : Fin 8) (i : Fin 2048) (j : Fin 8192) :
    (broadcastInDim S1x8x2048x8192 ![] bcast_S_S1x8x2048x8192 (id (constant S_ .f32 0x00000000#32)) : FVec Ideal S1x8x2048x8192 .f32) (ix4 0 h i j) = 0 := by
  pointwise [id_eq]
theorem select_div {s : Shape} (c : IVec s 1) (x y z : FVec Ideal s .f32) (i : s.Idx) :
    select c (Host.divf x y) z i = Scalar.select (c i) (Ideal.div (x i) (y i)) (z i) := rfl

theorem refWeight_apply (e : FVec Ideal S1x8x2048x8192 .f32) (h : Fin 8) (i : Fin 2048) (j : Fin 8192) :
    refWeight refMask e (ix4 0 h i j) = Ideal.div (e (ix4 0 h i j)) (∑ y, e (ix4 0 h i y)) := by
  unfold refWeight
  rw [select_div, keep_apply, den_apply, zero_apply, refDen_apply, refKeep_apply]
  rfl

theorem refOut_apply (w : FVec Ideal S1x8x2048x8192 .f32) (i : Fin 2048) (n : Fin 1024) :
    refOut v wo w (ix2 i n) = ∑ a : Fin 1024, (∑ j : Fin 8192, v (ix2 j a) * w (ix4 0 ⟨a.val / 128, by have := a.isLt; omega⟩ i j)) * wo (ix2 a n) := by
  pointwise [refOut]

/-- The whole reference. -/
def refAll : FVec Ideal S2048x1024 .f32 := refOut v wo (refWeight refMask (refRaised (refLeft refMask (refScore x wq k))))

theorem refAll_apply (hx : ∀ i, IsReal (x i)) (hw : ∀ i, IsReal (wq i)) (hk : ∀ (j : Fin 2048) (a : Fin 1024), IsReal (k (ix2 ⟨j.val, by have := j.isLt; omega⟩ a)))
    (i : Fin 2048) (n : Fin 1024) : refAll x wq k v wo (ix2 i n) = outSpec x wq k v wo i n := by
  unfold refAll
  rw [refOut_apply]
  unfold outSpec
  refine Finset.sum_congr rfl fun a _ => congrArg (· * wo (ix2 a n)) ?_
  generalize hh : (⟨a.val / 128, by have := a.isLt; omega⟩ : Fin 8) = h
  have hc : col h ⟨a.val % 128, Nat.mod_lt _ (by decide)⟩ = a := by rw [← hh]; exact col_div_mod a
  have hl : ∀ j : Fin 8192, refLeft refMask (refScore x wq k) (ix4 0 h i j) = left (Seen i) (score x wq k i h) j := fun j => by
    rw [refLeft_apply]
    exact congrArg (fun f => left (Seen i) f j) (funext fun y => refScore_apply x wq k h i y)
  have hr : ∀ j : Fin 8192, refRaised (refLeft refMask (refScore x wq k)) (ix4 0 h i j) = raised (Seen i) (score x wq k i h) j := fun j => by
    rw [refRaised_apply, hl]
    simp only [hl]
    rfl
  have hs : ∀ j : Fin 8192, Seen i j → IsReal (score x wq k i h j) := fun j hj => by
    have hi := i.isLt
    have hj2 : j.val < 2048 := by unfold Seen at hj; omega
    unfold score query
    refine isReal_mul (isReal_sum _ _ fun d => isReal_mul (isReal_sum _ _ fun b => isReal_mul (hx _) (hw _)) (hk ⟨j.val, hj2⟩ _)) ?_
    exact ⟨_, show scale = _ from by unfold scale; simp only [Ideal.ofBits, Ideal.ieee]; rfl⟩
  unfold ctxSpec
  rw [← softmax_eq (Seen i) (score x wq k i h) hs 0 (by show 0 / 64 ≤ i.val / 64; omega) (fun j => v (ix2 j (col h ⟨a.val % 128, Nat.mod_lt _ (by decide)⟩)))]
  refine Finset.sum_congr rfl fun j _ => ?_
  rw [refWeight_apply, hc]
  simp only [hr]

end
end Cert.KProof
end
-- ==== Proof.Algebraic.lean ====
/-
The two programs compute one value at the ideal instance, where `x`, the query weights and the keys are finite.
-/
module

public import proofs.«01_k».proof.Proof.Frames
public import proofs.«01_k».proof.Proof.HeadValue
public import proofs.«01_k».proof.Proof.RefValue
public import proofs.«01_k».proof.Proof.Gen.Pre_finite_KernelIdeal
public import proofs.«01_k».proof.Proof.Gen.Pre_finite_ReferenceIdeal
public import Idealize.ShloMosaic.Lib.Layout
public import Idealize.ShloMosaic.Lib.Pipeline.ValueKit.Geometry

@[expose] public section

set_option maxRecDepth 16384

noncomputable section

namespace Cert.KProof

open Idealize.ShloMosaic Idealize.ShloMosaic.TcCoe Idealize.SL.Sem
open Cert.KernelIdeal Cert.KernelIdeal.Gen

/-! ## The windows are whole arrays -/

section
variable {F : FTy → Type} [FloatOps F] (m : (ℓ : Loc nD τ sig) → Buf (Elt F) ℓ) (c : Dev nD)

/-- An index with another's coordinates, each from the start by one, is that index. -/
theorem idx_self {a b : ℕ} (i j : (⟨2, ![a, b]⟩ : Shape).Idx) (h0 : (j 0).val = 0 + 1 * (i 0).val) (h1 : (j 1).val = 0 + 1 * (i 1).val) : j = i :=
  funext fun d => Fin.ext (by
    fin_cases d
    · exact h0.trans ((Nat.zero_add _).trans (Nat.one_mul _))
    · exact h1.trans ((Nat.zero_add _).trans (Nat.one_mul _)))

theorem wqAt_eq : wqAt m c = m ((c : Thread nD τ).loc main_arg1) :=
  funext fun i => congrArg (m ((c : Thread nD τ).loc main_arg1)) (idx_self i _ rfl rfl)
theorem keyAt_eq : keyAt m c = m ((c : Thread nD τ).loc main_arg2) :=
  funext fun i => congrArg (m ((c : Thread nD τ).loc main_arg2)) (idx_self i _ rfl rfl)
theorem valAt_eq : valAt m c = m ((c : Thread nD τ).loc main_arg3) :=
  funext fun i => congrArg (m ((c : Thread nD τ).loc main_arg3)) (idx_self i _ rfl rfl)
theorem woAt_eq : woAt m c = m ((c : Thread nD τ).loc main_arg4) :=
  funext fun i => congrArg (m ((c : Thread nD τ).loc main_arg4)) (idx_self i _ rfl rfl)

/-- The result array holds what the body left in its staging buffer. -/
theorem finalA_out : finalA m c 4 = outAt m c :=
  (dats m 0 c).arrAt_eq_of_after_last 4 t0_0 (by decide +kernel) (outAt m c) (fun j => rfl)

end

/-! ## The precondition -/

/-- An extended real whose absolute value is below the positive infinity is a real. -/
theorem isReal_of_lt (x : EReal) (h : FloatOps.cmpf (F := Ideal) (φ := .f32) .olt (FloatOps.absf (F := Ideal) (φ := .f32) x) (Ideal.ofBits .f32 0x7F800000#32) = 1#1) :
    IsReal x := by
  have hb : Ideal.ofBits .f32 0x7F800000#32 = ⊤ := by simp [Ideal.ofBits, Ideal.ieee]
  rw [Ideal.cmpf_def, Ideal.absf_def, hb] at h
  have hl : max x (-x) < ⊤ := by
    by_contra hn
    simp [Ideal.cmp, hn] at h
  have h1 : x < ⊤ := (le_max_left x (-x)).trans_lt hl
  have h2 : -x < ⊤ := (le_max_right x (-x)).trans_lt hl
  induction x with
  | bot => simp at h2
  | coe r => exact ⟨r, rfl⟩
  | top => simp at h1

theorem finite_args (m : (ℓ : Loc nD τ sig) → Buf (Elt Ideal) ℓ)
    (h : Cert.Pre_KernelIdeal_finite_KernelIdeal (hPre_finite_KernelIdeal := Cert.Pre_finite_KernelIdeal.Gen.facts) m) (c : Dev nD) :
    (∀ i, IsReal (m ((c : Thread nD τ).loc main_arg0) i)) ∧ (∀ i, IsReal (m ((c : Thread nD τ).loc main_arg1) i)) ∧ (∀ i, IsReal (m ((c : Thread nD τ).loc main_arg2) i)) :=
  ⟨fun i => isReal_of_lt _ (congrFun (h c).1 i), fun i => isReal_of_lt _ (congrFun (h c).2.1 i), fun i => isReal_of_lt _ (congrFun (h c).2.2 i)⟩

/-! ## The value -/

/-- The first device's block of an array cut by rows is its first 2048 rows. -/
theorem block_zero (k : FVec Ideal ⟨2, ![8192, 1024]⟩ .f32) (j : Fin 2048) (a : Fin 1024) :
    Layout.block ⟨2, ![2048, 1024]⟩ ⟨2, ![8192, 1024]⟩ 0 4 0 k (by decide) (ix2 j a) = k (ix2 ⟨j.val, by have := j.isLt; omega⟩ a) := by
  refine congrArg k (funext fun b => Fin.ext ?_)
  rw [Layout.Tiles.idx_val]
  fin_cases b
  · show (0 : ℕ) * 2048 + j.val = j.val; omega
  · rfl

/-- The kernel's value, computed from the first blocks, is the reference's, computed from the whole arrays. -/
theorem value_eq (x : FVec Ideal ⟨2, ![2048, 1024]⟩ .f32) (wq wo : FVec Ideal ⟨2, ![1024, 1024]⟩ .f32) (k v : FVec Ideal ⟨2, ![8192, 1024]⟩ .f32)
    (hx : ∀ i, IsReal (x i)) (hw : ∀ i, IsReal (wq i))
    (hk : ∀ i, IsReal (Layout.block ⟨2, ![2048, 1024]⟩ ⟨2, ![8192, 1024]⟩ 0 4 0 k (by decide) i)) :
    outBuf (F := Ideal) (ctxBuf x wq (Layout.block ⟨2, ![2048, 1024]⟩ ⟨2, ![8192, 1024]⟩ 0 4 0 k (by decide))
      (Layout.block ⟨2, ![2048, 1024]⟩ ⟨2, ![8192, 1024]⟩ 0 4 0 v (by decide))) wo = refAll x wq k v wo := by
  funext i
  have ei : i = ix2 (i 0) (i 1) := funext fun b => by fin_cases b <;> rfl
  rw [ei]
  refine (kernel_out x wq wo _ _ _ _).trans ?_
  refine Eq.trans ?_ (refAll_apply x wq k v wo hx hw (fun j a => (congrArg IsReal (block_zero k j a)).mp (hk _)) _ _).symm
  exact (outSpec_prefix (by decide) x wq k v _ _ (fun j a => block_zero k j a) (fun j a => block_zero v j a) wo _ _).symm

/-- The two programs compute one value, and leave their arguments unchanged. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hrep
  obtain ⟨hx, hw, hk⟩ := finite_args m hpre 0
  have hout : ∀ c, finalA m c 4 = Cert.ReferenceIdeal.Value.res_main_v37 m' 0 := fun c => by
    rw [finalA_out, ref_eq]
    unfold outAt ctxAt xAt
    rw [wqAt_eq, keyAt_eq, valAt_eq, woAt_eq, (hrep c).2.2.2.2, (hrep 0).2.2.1, (hrep 0).2.2.2.1, (hrep 0).1, (hrep 0).2.1]
    rw [(hrep 0).2.2.1] at hk
    rw [(hrep 0).1] at hx
    rw [(hrep 0).2.1] at hw
    exact value_eq _ _ _ _ _ hx hw hk
  refine ⟨Cert.ReferenceIdeal.Value.res_main_v37 m' 0, ?_, ?_⟩
  · exact (θ_run defs _ _).mono (fun r h c => ⟨((h.1 c).1).trans (hout c), (h.1 c).2⟩) (run_args m g)
  · exact (θ_run Cert.ReferenceIdeal.defs _ _).mono (fun r h => h 0) (Cert.ReferenceIdeal.Value.run (F := Ideal) m' g')

/-! ## The frames under the precondition -/

theorem frame_ideal_finite : Cert.quiescent_KernelIdeal_pre_finite_KernelIdeal (hKernelIdeal := Cert.KernelIdeal.Gen.facts)
    (hPre_finite_KernelIdeal := Cert.Pre_finite_KernelIdeal.Gen.facts) :=
  fun m g _ => frame_ideal m g trivial
theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) :=
  fun m g _ => frame_reference m g trivial

end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.KProof.frame_kernel, Cert.KProof.frame_ideal, Cert.KProof.frame_ideal_finite, Cert.KProof.frame_reference, Cert.KProof.frame_reference_finite,
  trivial, Cert.KProof.algebraic⟩

end Cert.Proof

end
